-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_KernelIdeal_spread [hPre_spread : Cert.Pre_spread.Facts] (m : (ℓ : Loc Cert.KernelIdeal.nD Cert.KernelIdeal.τ Cert.KernelIdeal.sig) → Buf (Elt Ideal) ℓ) : Prop :=
  ∀ c : Dev Cert.KernelIdeal.nD,
    (Cert.Pre_spread.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_spread [hKernelIdeal : Cert.KernelIdeal.Facts] [hPre_spread : Cert.Pre_spread.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_spread m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def holds_KernelIdeal_differs_pre_spread [hKernelIdeal : Cert.KernelIdeal.Facts] [hPre_spread : Cert.Pre_spread.Facts] [hPost_differs : Cert.Post_differs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_spread m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ (Cert.Post_differs.fn (F := Ideal) (m ((c.tc : Thread Cert.KernelIdeal.nD Cert.KernelIdeal.τ).loc Cert.KernelIdeal.main_arg0)) (r.2.mem ((c.tc : Thread Cert.KernelIdeal.nD Cert.KernelIdeal.τ).loc Cert.KernelIdeal.main_v0))) = (fun _ => 1#1))

def Claim : Prop :=
  ∃ (hKernel : Cert.Kernel.Facts) (hKernelIdeal : Cert.KernelIdeal.Facts) (hReferenceIdeal : Cert.ReferenceIdeal.Facts) (hPre_finite : Cert.Pre_finite.Facts) (hPre_spread : Cert.Pre_spread.Facts) (hPost_differs : Cert.Post_differs.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_KernelIdeal_pre_spread (hKernelIdeal := hKernelIdeal) (hPre_spread := hPre_spread)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
    ∧ holds_KernelIdeal_differs_pre_spread (hKernelIdeal := hKernelIdeal) (hPre_spread := hPre_spread) (hPost_differs := hPost_differs)
-- ==== Post_differs.lean ====
abbrev S128x576x768 : Shape := ⟨3, ![128, 576, 768]⟩
abbrev S128x576x9 : Shape := ⟨3, ![128, 576, 9]⟩
abbrev S24 : Shape := ⟨1, ![24]⟩
abbrev S1x24 : Shape := ⟨2, ![1, 24]⟩
abbrev S24x24 : Shape := ⟨2, ![24, 24]⟩
abbrev S576 : Shape := ⟨1, ![576]⟩
abbrev S_ : Shape := ⟨0, ![]⟩
abbrev S576x1 : Shape := ⟨2, ![576, 1]⟩
abbrev S576x2 : Shape := ⟨2, ![576, 2]⟩
abbrev S128x576x2 : Shape := ⟨3, ![128, 576, 2]⟩
abbrev S128x576x770 : Shape := ⟨3, ![128, 576, 770]⟩
abbrev S128x3x8x3x8x770 : Shape := ⟨6, ![128, 3, 8, 3, 8, 770]⟩
abbrev S128x3x3x770 : Shape := ⟨4, ![128, 3, 3, 770]⟩
abbrev S128x9x770 : Shape := ⟨3, ![128, 9, 770]⟩
abbrev S128x576 : Shape := ⟨2, ![128, 576]⟩
abbrev S128x576x1 : Shape := ⟨3, ![128, 576, 1]⟩
abbrev S128x9 : Shape := ⟨2, ![128, 9]⟩
abbrev S128x1x9 : Shape := ⟨3, ![128, 1, 9]⟩
abbrev S128x576x1x770 : Shape := ⟨4, ![128, 576, 1, 770]⟩
abbrev S128x1x9x770 : Shape := ⟨4, ![128, 1, 9, 770]⟩
abbrev S128x576x9x770 : Shape := ⟨4, ![128, 576, 9, 770]⟩
abbrev S128x576x9x1 : Shape := ⟨4, ![128, 576, 9, 1]⟩
abbrev S128x9x1 : Shape := ⟨3, ![128, 9, 1]⟩

class Facts : Prop where
  shapeCasts_S24_S1x24 : S24.ShapeCasts S1x24
  bcast_S1x24_S24x24_0_1 : S1x24.BroadcastsInDim S24x24 (![0, 1] : Fin 2 → Fin S24x24.rank)
  shapeCasts_S24x24_S576 : S24x24.ShapeCasts S576
  bcast_S_S576 : S_.BroadcastsInDim S576 (![] : Fin 0 → Fin S576.rank)
  bcast_S24_S24x24_0 : S24.BroadcastsInDim S24x24 (![0] : Fin 1 → Fin S24x24.rank)
  bcast_S576_S576x1_0 : S576.BroadcastsInDim S576x1 (![0] : Fin 1 → Fin S576x1.rank)
  concatenates_S576x1_S576x1_S576x2_d1 : Shape.Concatenates [S576x1, S576x1] S576x2 1
  bcast_S576x2_S128x576x2_1_2 : S576x2.BroadcastsInDim S128x576x2 (![1, 2] : Fin 2 → Fin S128x576x2.rank)
  concatenates_S128x576x2_S128x576x768_S128x576x770_d2 : Shape.Concatenates [S128x576x2, S128x576x768] S128x576x770 2
  shapeCasts_S128x576x770_S128x3x8x3x8x770 : S128x576x770.ShapeCasts S128x3x8x3x8x770
  reducesTo_S128x3x8x3x8x770_S128x3x3x770_d2_4 : S128x3x8x3x8x770.ReducesTo [2, 4] S128x3x3x770
  h_S_ : 0 < S_.numel
  bcast_S_S128x3x3x770 : S_.BroadcastsInDim S128x3x3x770 (![] : Fin 0 → Fin S128x3x3x770.rank)
  shapeCasts_S128x3x3x770_S128x9x770 : S128x3x3x770.ShapeCasts S128x9x770
  reducesTo_S128x576x770_S128x576_d2 : S128x576x770.ReducesTo [2] S128x576
  bcast_S128x576_S128x576x1_0_1 : S128x576.BroadcastsInDim S128x576x1 (![0, 1] : Fin 2 → Fin S128x576x1.rank)
  reducesTo_S128x9x770_S128x9_d2 : S128x9x770.ReducesTo [2] S128x9
  bcast_S128x9_S128x1x9_0_2 : S128x9.BroadcastsInDim S128x1x9 (![0, 2] : Fin 2 → Fin S128x1x9.rank)
  bcast_S128x576x770_S128x576x1x770_0_1_3 : S128x576x770.BroadcastsInDim S128x576x1x770 (![0, 1, 3] : Fin 3 → Fin S128x576x1x770.rank)
  bcast_S128x9x770_S128x1x9x770_0_2_3 : S128x9x770.BroadcastsInDim S128x1x9x770 (![0, 2, 3] : Fin 3 → Fin S128x1x9x770.rank)
  bcast_S128x576x1x770_S128x576x9x770_0_1_2_3 : S128x576x1x770.BroadcastsInDim S128x576x9x770 (![0, 1, 2, 3] : Fin 4 → Fin S128x576x9x770.rank)
  bcast_S128x1x9x770_S128x576x9x770_0_1_2_3 : S128x1x9x770.BroadcastsInDim S128x576x9x770 (![0, 1, 2, 3] : Fin 4 → Fin S128x576x9x770.rank)
  reducesTo_S128x576x9x770_S128x576x9_d3 : S128x576x9x770.ReducesTo [3] S128x576x9
  bcast_S_S128x576x9 : S_.BroadcastsInDim S128x576x9 (![] : Fin 0 → Fin S128x576x9.rank)
  bcast_S128x576x1_S128x576x9_0_1_2 : S128x576x1.BroadcastsInDim S128x576x9 (![0, 1, 2] : Fin 3 → Fin S128x576x9.rank)
  bcast_S128x1x9_S128x576x9_0_1_2 : S128x1x9.BroadcastsInDim S128x576x9 (![0, 1, 2] : Fin 3 → Fin S128x576x9.rank)
  reducesTo_S128x576x9_S128x576_d2 : S128x576x9.ReducesTo [2] S128x576
  bcast_S_S128x576 : S_.BroadcastsInDim S128x576 (![] : Fin 0 → Fin S128x576.rank)
  reducesTo_S128x576x9_S128x9_d1 : S128x576x9.ReducesTo [1] S128x9
  bcast_S128x576x9_S128x576x9x1_0_1_2 : S128x576x9.BroadcastsInDim S128x576x9x1 (![0, 1, 2] : Fin 3 → Fin S128x576x9x1.rank)
  bcast_S128x576x9x1_S128x576x9x770_0_1_2_3 : S128x576x9x1.BroadcastsInDim S128x576x9x770 (![0, 1, 2, 3] : Fin 4 → Fin S128x576x9x770.rank)
  reducesTo_S128x576x9x770_S128x9x770_d1 : S128x576x9x770.ReducesTo [1] S128x9x770
  bcast_S128x9_S128x9x1_0_1 : S128x9.BroadcastsInDim S128x9x1 (![0, 1] : Fin 2 → Fin S128x9x1.rank)
  bcast_S_S128x9x1 : S_.BroadcastsInDim S128x9x1 (![] : Fin 0 → Fin S128x9x1.rank)
  bcast_S128x9x1_S128x9x770_0_1_2 : S128x9x1.BroadcastsInDim S128x9x770 (![0, 1, 2] : Fin 3 → Fin S128x9x770.rank)
  reducesTo_S128x576x9_S_d0_1_2 : S128x576x9.ReducesTo [0, 1, 2] S_

variable [Facts]

def fn_part24 {F : FTy → Type} [FloatOps F] (main_arg1 : FVec F S128x576x9 .f32) (main_v465 : FVec F S128x576x9 .f32) : IVec S_ 1 :=
  let main_v466 : FVec F S128x576x9 .f32 := Host.exp main_v465
  let main_cst_109 : FVec F S_ .f32 := constant S_ .f32 0x00000000#32
  let main_v467 : FVec F S128x576 .f32 := (fun x v => Host.reduceAdd x v reducesTo_S128x576x9_S128x576_d2 h_S_) main_v466 main_cst_109
  let main_v468 : FVec F S128x576x1 .f32 := broadcastInDim S128x576x1 ![0, 1] bcast_S128x576_S128x576x1_0_1 main_v467
  let main_v469 : FVec F S128x576x9 .f32 := broadcastInDim S128x576x9 ![0, 1, 2] bcast_S128x576x1_S128x576x9_0_1_2 main_v468
  let main_v470 : FVec F S128x576x9 .f32 := Host.divf main_v466 main_v469
  let main_v471 : IVec S128x576x9 1 := cmpf .une main_arg1 main_v470
  let main_c : IVec S_ 1 := constantI S_ 1 0#1
  let main_v472 : IVec S_ 1 := (fun x v => Host.reduce IntOp.ori x v reducesTo_S128x576x9_S_d0_1_2 h_S_) main_v471 main_c
  main_v472

def fn_part23 {F : FTy → Type} [FloatOps F] (main_arg1 : FVec F S128x576x9 .f32) (main_v15 : FVec F S128x576x770 .f32) (main_v440 : FVec F S128x9x770 .f32) (main_v443 : FVec F S128x576x1 .f32) (main_v445 : FVec F S128x9 .f32) : IVec S_ 1 :=
  let main_v446 : FVec F S128x1x9 .f32 := broadcastInDim S128x1x9 ![0, 2] bcast_S128x9_S128x1x9_0_2 main_v445
  let main_v447 : FVec F S128x576x1x770 .f32 := broadcastInDim S128x576x1x770 ![0, 1, 3] bcast_S128x576x770_S128x576x1x770_0_1_3 main_v15
  let main_v448 : FVec F S128x1x9x770 .f32 := broadcastInDim S128x1x9x770 ![0, 2, 3] bcast_S128x9x770_S128x1x9x770_0_2_3 main_v440
  let main_v449 : FVec F S128x576x9x770 .f32 := broadcastInDim S128x576x9x770 ![0, 1, 2, 3] bcast_S128x576x1x770_S128x576x9x770_0_1_2_3 main_v447
  let main_v450 : FVec F S128x576x9x770 .f32 := broadcastInDim S128x576x9x770 ![0, 1, 2, 3] bcast_S128x1x9x770_S128x576x9x770_0_1_2_3 main_v448
  let main_v451 : FVec F S128x576x9x770 .f32 := mulf main_v449 main_v450
  let main_cst_105 : FVec F S_ .f32 := constant S_ .f32 0x00000000#32
  let main_v452 : FVec F S128x576x9 .f32 := (fun x v => Host.reduceAdd x v reducesTo_S128x576x9x770_S128x576x9_d3 h_S_) main_v451 main_cst_105
  let main_cst_106 : FVec F S_ .f32 := constant S_ .f32 0x40000000#32
  let main_v453 : FVec F S128x576x9 .f32 := broadcastInDim S128x576x9 ![] bcast_S_S128x576x9 main_cst_106
  let main_v454 : FVec F S128x576x9 .f32 := mulf main_v453 main_v452
  let main_v455 : FVec F S128x576x9 .f32 := broadcastInDim S128x576x9 ![0, 1, 2] bcast_S128x576x1_S128x576x9_0_1_2 main_v443
  let main_v456 : FVec F S128x576x9 .f32 := subf main_v455 main_v454
  let main_v457 : FVec F S128x576x9 .f32 := broadcastInDim S128x576x9 ![0, 1, 2] bcast_S128x1x9_S128x576x9_0_1_2 main_v446
  let main_v458 : FVec F S128x576x9 .f32 := addf main_v456 main_v457
  let main_v459 : FVec F S128x576x9 .f32 := Host.negf main_v458
  let main_cst_107 : FVec F S_ .f32 := constant S_ .f32 0xFF800000#32
  let main_v460 : FVec F S128x576 .f32 := (fun x v => Host.reduce FloatOps.maximumf x v reducesTo_S128x576x9_S128x576_d2 h_S_) main_v459 main_cst_107
  let main_cst_108 : FVec F S_ .f32 := constant S_ .f32 0xFF800000#32
  let main_v461 : FVec F S128x576 .f32 := broadcastInDim S128x576 ![] bcast_S_S128x576 main_cst_108
  let main_v462 : FVec F S128x576 .f32 := maximumf main_v461 main_v460
  let main_v463 : FVec F S128x576x1 .f32 := broadcastInDim S128x576x1 ![0, 1] bcast_S128x576_S128x576x1_0_1 main_v462
  let main_v464 : FVec F S128x576x9 .f32 := broadcastInDim S128x576x9 ![0, 1, 2] bcast_S128x576x1_S128x576x9_0_1_2 main_v463
  let main_v465 : FVec F S128x576x9 .f32 := subf main_v459 main_v464
  fn_part24 (F := F) main_arg1 main_v465

def fn_part22 {F : FTy → Type} [FloatOps F] (main_arg1 : FVec F S128x576x9 .f32) (main_v15 : FVec F S128x576x770 .f32) (main_v424 : FVec F S128x576x9 .f32) (main_v426 : FVec F S128x576x1 .f32) : IVec S_ 1 :=
  let main_v427 : FVec F S128x576x9 .f32 := broadcastInDim S128x576x9 ![0, 1, 2] bcast_S128x576x1_S128x576x9_0_1_2 main_v426
  let main_v428 : FVec F S128x576x9 .f32 := Host.divf main_v424 main_v427
  let main_cst_100 : FVec F S_ .f32 := constant S_ .f32 0x00000000#32
  let main_v429 : FVec F S128x9 .f32 := (fun x v => Host.reduceAdd x v reducesTo_S128x576x9_S128x9_d1 h_S_) main_v428 main_cst_100
  let main_v430 : FVec F S128x576x9x1 .f32 := broadcastInDim S128x576x9x1 ![0, 1, 2] bcast_S128x576x9_S128x576x9x1_0_1_2 main_v428
  let main_v431 : FVec F S128x576x1x770 .f32 := broadcastInDim S128x576x1x770 ![0, 1, 3] bcast_S128x576x770_S128x576x1x770_0_1_3 main_v15
  let main_v432 : FVec F S128x576x9x770 .f32 := broadcastInDim S128x576x9x770 ![0, 1, 2, 3] bcast_S128x576x9x1_S128x576x9x770_0_1_2_3 main_v430
  let main_v433 : FVec F S128x576x9x770 .f32 := broadcastInDim S128x576x9x770 ![0, 1, 2, 3] bcast_S128x576x1x770_S128x576x9x770_0_1_2_3 main_v431
  let main_v434 : FVec F S128x576x9x770 .f32 := mulf main_v432 main_v433
  let main_cst_101 : FVec F S_ .f32 := constant S_ .f32 0x00000000#32
  let main_v435 : FVec F S128x9x770 .f32 := (fun x v => Host.reduceAdd x v reducesTo_S128x576x9x770_S128x9x770_d1 h_S_) main_v434 main_cst_101
  let main_v436 : FVec F S128x9x1 .f32 := broadcastInDim S128x9x1 ![0, 1] bcast_S128x9_S128x9x1_0_1 main_v429
  let main_cst_102 : FVec F S_ .f32 := constant S_ .f32 0x322BCC77#32
  let main_v437 : FVec F S128x9x1 .f32 := broadcastInDim S128x9x1 ![] bcast_S_S128x9x1 main_cst_102
  let main_v438 : FVec F S128x9x1 .f32 := addf main_v436 main_v437
  let main_v439 : FVec F S128x9x770 .f32 := broadcastInDim S128x9x770 ![0, 1, 2] bcast_S128x9x1_S128x9x770_0_1_2 main_v438
  let main_v440 : FVec F S128x9x770 .f32 := Host.divf main_v435 main_v439
  let main_v441 : FVec F S128x576x770 .f32 := mulf main_v15 main_v15
  let main_cst_103 : FVec F S_ .f32 := constant S_ .f32 0x00000000#32
  let main_v442 : FVec F S128x576 .f32 := (fun x v => Host.reduceAdd x v reducesTo_S128x576x770_S128x576_d2 h_S_) main_v441 main_cst_103
  let main_v443 : FVec F S128x576x1 .f32 := broadcastInDim S128x576x1 ![0, 1] bcast_S128x576_S128x576x1_0_1 main_v442
  let main_v444 : FVec F S128x9x770 .f32 := mulf main_v440 main_v440
  let main_cst_104 : FVec F S_ .f32 := constant S_ .f32 0x00000000#32
  let main_v445 : FVec F S128x9 .f32 := (fun x v => Host.reduceAdd x v reducesTo_S128x9x770_S128x9_d2 h_S_) main_v444 main_cst_104
  fn_part23 (F := F) main_arg1 main_v15 main_v440 main_v443 main_v445

def fn_part21 {F : FTy → Type} [FloatOps F] (main_arg1 : FVec F S128x576x9 .f32) (main_v15 : FVec F S128x576x770 .f32) (main_v401 : FVec F S128x576x1 .f32) (main_v404 : FVec F S128x1x9 .f32) (main_v406 : FVec F S128x1x9x770 .f32) (main_v407 : FVec F S128x576x9x770 .f32) : IVec S_ 1 :=
  let main_v408 : FVec F S128x576x9x770 .f32 := broadcastInDim S128x576x9x770 ![0, 1, 2, 3] bcast_S128x1x9x770_S128x576x9x770_0_1_2_3 main_v406
  let main_v409 : FVec F S128x576x9x770 .f32 := mulf main_v407 main_v408
  let main_cst_95 : FVec F S_ .f32 := constant S_ .f32 0x00000000#32
  let main_v410 : FVec F S128x576x9 .f32 := (fun x v => Host.reduceAdd x v reducesTo_S128x576x9x770_S128x576x9_d3 h_S_) main_v409 main_cst_95
  let main_cst_96 : FVec F S_ .f32 := constant S_ .f32 0x40000000#32
  let main_v411 : FVec F S128x576x9 .f32 := broadcastInDim S128x576x9 ![] bcast_S_S128x576x9 main_cst_96
  let main_v412 : FVec F S128x576x9 .f32 := mulf main_v411 main_v410
  let main_v413 : FVec F S128x576x9 .f32 := broadcastInDim S128x576x9 ![0, 1, 2] bcast_S128x576x1_S128x576x9_0_1_2 main_v401
  let main_v414 : FVec F S128x576x9 .f32 := subf main_v413 main_v412
  let main_v415 : FVec F S128x576x9 .f32 := broadcastInDim S128x576x9 ![0, 1, 2] bcast_S128x1x9_S128x576x9_0_1_2 main_v404
  let main_v416 : FVec F S128x576x9 .f32 := addf main_v414 main_v415
  let main_v417 : FVec F S128x576x9 .f32 := Host.negf main_v416
  let main_cst_97 : FVec F S_ .f32 := constant S_ .f32 0xFF800000#32
  let main_v418 : FVec F S128x576 .f32 := (fun x v => Host.reduce FloatOps.maximumf x v reducesTo_S128x576x9_S128x576_d2 h_S_) main_v417 main_cst_97
  let main_cst_98 : FVec F S_ .f32 := constant S_ .f32 0xFF800000#32
  let main_v419 : FVec F S128x576 .f32 := broadcastInDim S128x576 ![] bcast_S_S128x576 main_cst_98
  let main_v420 : FVec F S128x576 .f32 := maximumf main_v419 main_v418
  let main_v421 : FVec F S128x576x1 .f32 := broadcastInDim S128x576x1 ![0, 1] bcast_S128x576_S128x576x1_0_1 main_v420
  let main_v422 : FVec F S128x576x9 .f32 := broadcastInDim S128x576x9 ![0, 1, 2] bcast_S128x576x1_S128x576x9_0_1_2 main_v421
  let main_v423 : FVec F S128x576x9 .f32 := subf main_v417 main_v422
  let main_v424 : FVec F S128x576x9 .f32 := Host.exp main_v423
  let main_cst_99 : FVec F S_ .f32 := constant S_ .f32 0x00000000#32
  let main_v425 : FVec F S128x576 .f32 := (fun x v => Host.reduceAdd x v reducesTo_S128x576x9_S128x576_d2 h_S_) main_v424 main_cst_99
  let main_v426 : FVec F S128x576x1 .f32 := broadcastInDim S128x576x1 ![0, 1] bcast_S128x576_S128x576x1_0_1 main_v425
  fn_part22 (F := F) main_arg1 main_v15 main_v424 main_v426

def fn_part20 {F : FTy → Type} [FloatOps F] (main_arg1 : FVec F S128x576x9 .f32) (main_v15 : FVec F S128x576x770 .f32) (main_v386 : FVec F S128x576x9 .f32) (main_v387 : FVec F S128x9 .f32) : IVec S_ 1 :=
  let main_v388 : FVec F S128x576x9x1 .f32 := broadcastInDim S128x576x9x1 ![0, 1, 2] bcast_S128x576x9_S128x576x9x1_0_1_2 main_v386
  let main_v389 : FVec F S128x576x1x770 .f32 := broadcastInDim S128x576x1x770 ![0, 1, 3] bcast_S128x576x770_S128x576x1x770_0_1_3 main_v15
  let main_v390 : FVec F S128x576x9x770 .f32 := broadcastInDim S128x576x9x770 ![0, 1, 2, 3] bcast_S128x576x9x1_S128x576x9x770_0_1_2_3 main_v388
  let main_v391 : FVec F S128x576x9x770 .f32 := broadcastInDim S128x576x9x770 ![0, 1, 2, 3] bcast_S128x576x1x770_S128x576x9x770_0_1_2_3 main_v389
  let main_v392 : FVec F S128x576x9x770 .f32 := mulf main_v390 main_v391
  let main_cst_91 : FVec F S_ .f32 := constant S_ .f32 0x00000000#32
  let main_v393 : FVec F S128x9x770 .f32 := (fun x v => Host.reduceAdd x v reducesTo_S128x576x9x770_S128x9x770_d1 h_S_) main_v392 main_cst_91
  let main_v394 : FVec F S128x9x1 .f32 := broadcastInDim S128x9x1 ![0, 1] bcast_S128x9_S128x9x1_0_1 main_v387
  let main_cst_92 : FVec F S_ .f32 := constant S_ .f32 0x322BCC77#32
  let main_v395 : FVec F S128x9x1 .f32 := broadcastInDim S128x9x1 ![] bcast_S_S128x9x1 main_cst_92
  let main_v396 : FVec F S128x9x1 .f32 := addf main_v394 main_v395
  let main_v397 : FVec F S128x9x770 .f32 := broadcastInDim S128x9x770 ![0, 1, 2] bcast_S128x9x1_S128x9x770_0_1_2 main_v396
  let main_v398 : FVec F S128x9x770 .f32 := Host.divf main_v393 main_v397
  let main_v399 : FVec F S128x576x770 .f32 := mulf main_v15 main_v15
  let main_cst_93 : FVec F S_ .f32 := constant S_ .f32 0x00000000#32
  let main_v400 : FVec F S128x576 .f32 := (fun x v => Host.reduceAdd x v reducesTo_S128x576x770_S128x576_d2 h_S_) main_v399 main_cst_93
  let main_v401 : FVec F S128x576x1 .f32 := broadcastInDim S128x576x1 ![0, 1] bcast_S128x576_S128x576x1_0_1 main_v400
  let main_v402 : FVec F S128x9x770 .f32 := mulf main_v398 main_v398
  let main_cst_94 : FVec F S_ .f32 := constant S_ .f32 0x00000000#32
  let main_v403 : FVec F S128x9 .f32 := (fun x v => Host.reduceAdd x v reducesTo_S128x9x770_S128x9_d2 h_S_) main_v402 main_cst_94
  let main_v404 : FVec F S128x1x9 .f32 := broadcastInDim S128x1x9 ![0, 2] bcast_S128x9_S128x1x9_0_2 main_v403
  let main_v405 : FVec F S128x576x1x770 .f32 := broadcastInDim S128x576x1x770 ![0, 1, 3] bcast_S128x576x770_S128x576x1x770_0_1_3 main_v15
  let main_v406 : FVec F S128x1x9x770 .f32 := broadcastInDim S128x1x9x770 ![0, 2, 3] bcast_S128x9x770_S128x1x9x770_0_2_3 main_v398
  let main_v407 : FVec F S128x576x9x770 .f32 := broadcastInDim S128x576x9x770 ![0, 1, 2, 3] bcast_S128x576x1x770_S128x576x9x770_0_1_2_3 main_v405
  fn_part21 (F := F) main_arg1 main_v15 main_v401 main_v404 main_v406 main_v407

def fn_part19 {F : FTy → Type} [FloatOps F] (main_arg1 : FVec F S128x576x9 .f32) (main_v15 : FVec F S128x576x770 .f32) (main_v359 : FVec F S128x576x1 .f32) (main_v362 : FVec F S128x1x9 .f32) (main_v368 : FVec F S128x576x9 .f32) : IVec S_ 1 :=
  let main_cst_86 : FVec F S_ .f32 := constant S_ .f32 0x40000000#32
  let main_v369 : FVec F S128x576x9 .f32 := broadcastInDim S128x576x9 ![] bcast_S_S128x576x9 main_cst_86
  let main_v370 : FVec F S128x576x9 .f32 := mulf main_v369 main_v368
  let main_v371 : FVec F S128x576x9 .f32 := broadcastInDim S128x576x9 ![0, 1, 2] bcast_S128x576x1_S128x576x9_0_1_2 main_v359
  let main_v372 : FVec F S128x576x9 .f32 := subf main_v371 main_v370
  let main_v373 : FVec F S128x576x9 .f32 := broadcastInDim S128x576x9 ![0, 1, 2] bcast_S128x1x9_S128x576x9_0_1_2 main_v362
  let main_v374 : FVec F S128x576x9 .f32 := addf main_v372 main_v373
  let main_v375 : FVec F S128x576x9 .f32 := Host.negf main_v374
  let main_cst_87 : FVec F S_ .f32 := constant S_ .f32 0xFF800000#32
  let main_v376 : FVec F S128x576 .f32 := (fun x v => Host.reduce FloatOps.maximumf x v reducesTo_S128x576x9_S128x576_d2 h_S_) main_v375 main_cst_87
  let main_cst_88 : FVec F S_ .f32 := constant S_ .f32 0xFF800000#32
  let main_v377 : FVec F S128x576 .f32 := broadcastInDim S128x576 ![] bcast_S_S128x576 main_cst_88
  let main_v378 : FVec F S128x576 .f32 := maximumf main_v377 main_v376
  let main_v379 : FVec F S128x576x1 .f32 := broadcastInDim S128x576x1 ![0, 1] bcast_S128x576_S128x576x1_0_1 main_v378
  let main_v380 : FVec F S128x576x9 .f32 := broadcastInDim S128x576x9 ![0, 1, 2] bcast_S128x576x1_S128x576x9_0_1_2 main_v379
  let main_v381 : FVec F S128x576x9 .f32 := subf main_v375 main_v380
  let main_v382 : FVec F S128x576x9 .f32 := Host.exp main_v381
  let main_cst_89 : FVec F S_ .f32 := constant S_ .f32 0x00000000#32
  let main_v383 : FVec F S128x576 .f32 := (fun x v => Host.reduceAdd x v reducesTo_S128x576x9_S128x576_d2 h_S_) main_v382 main_cst_89
  let main_v384 : FVec F S128x576x1 .f32 := broadcastInDim S128x576x1 ![0, 1] bcast_S128x576_S128x576x1_0_1 main_v383
  let main_v385 : FVec F S128x576x9 .f32 := broadcastInDim S128x576x9 ![0, 1, 2] bcast_S128x576x1_S128x576x9_0_1_2 main_v384
  let main_v386 : FVec F S128x576x9 .f32 := Host.divf main_v382 main_v385
  let main_cst_90 : FVec F S_ .f32 := constant S_ .f32 0x00000000#32
  let main_v387 : FVec F S128x9 .f32 := (fun x v => Host.reduceAdd x v reducesTo_S128x576x9_S128x9_d1 h_S_) main_v386 main_cst_90
  fn_part20 (F := F) main_arg1 main_v15 main_v386 main_v387

def fn_part18 {F : FTy → Type} [FloatOps F] (main_arg1 : FVec F S128x576x9 .f32) (main_v15 : FVec F S128x576x770 .f32) (main_v345 : FVec F S128x9 .f32) (main_v348 : FVec F S128x576x9x770 .f32) (main_v349 : FVec F S128x576x9x770 .f32) : IVec S_ 1 :=
  let main_v350 : FVec F S128x576x9x770 .f32 := mulf main_v348 main_v349
  let main_cst_81 : FVec F S_ .f32 := constant S_ .f32 0x00000000#32
  let main_v351 : FVec F S128x9x770 .f32 := (fun x v => Host.reduceAdd x v reducesTo_S128x576x9x770_S128x9x770_d1 h_S_) main_v350 main_cst_81
  let main_v352 : FVec F S128x9x1 .f32 := broadcastInDim S128x9x1 ![0, 1] bcast_S128x9_S128x9x1_0_1 main_v345
  let main_cst_82 : FVec F S_ .f32 := constant S_ .f32 0x322BCC77#32
  let main_v353 : FVec F S128x9x1 .f32 := broadcastInDim S128x9x1 ![] bcast_S_S128x9x1 main_cst_82
  let main_v354 : FVec F S128x9x1 .f32 := addf main_v352 main_v353
  let main_v355 : FVec F S128x9x770 .f32 := broadcastInDim S128x9x770 ![0, 1, 2] bcast_S128x9x1_S128x9x770_0_1_2 main_v354
  let main_v356 : FVec F S128x9x770 .f32 := Host.divf main_v351 main_v355
  let main_v357 : FVec F S128x576x770 .f32 := mulf main_v15 main_v15
  let main_cst_83 : FVec F S_ .f32 := constant S_ .f32 0x00000000#32
  let main_v358 : FVec F S128x576 .f32 := (fun x v => Host.reduceAdd x v reducesTo_S128x576x770_S128x576_d2 h_S_) main_v357 main_cst_83
  let main_v359 : FVec F S128x576x1 .f32 := broadcastInDim S128x576x1 ![0, 1] bcast_S128x576_S128x576x1_0_1 main_v358
  let main_v360 : FVec F S128x9x770 .f32 := mulf main_v356 main_v356
  let main_cst_84 : FVec F S_ .f32 := constant S_ .f32 0x00000000#32
  let main_v361 : FVec F S128x9 .f32 := (fun x v => Host.reduceAdd x v reducesTo_S128x9x770_S128x9_d2 h_S_) main_v360 main_cst_84
  let main_v362 : FVec F S128x1x9 .f32 := broadcastInDim S128x1x9 ![0, 2] bcast_S128x9_S128x1x9_0_2 main_v361
  let main_v363 : FVec F S128x576x1x770 .f32 := broadcastInDim S128x576x1x770 ![0, 1, 3] bcast_S128x576x770_S128x576x1x770_0_1_3 main_v15
  let main_v364 : FVec F S128x1x9x770 .f32 := broadcastInDim S128x1x9x770 ![0, 2, 3] bcast_S128x9x770_S128x1x9x770_0_2_3 main_v356
  let main_v365 : FVec F S128x576x9x770 .f32 := broadcastInDim S128x576x9x770 ![0, 1, 2, 3] bcast_S128x576x1x770_S128x576x9x770_0_1_2_3 main_v363
  let main_v366 : FVec F S128x576x9x770 .f32 := broadcastInDim S128x576x9x770 ![0, 1, 2, 3] bcast_S128x1x9x770_S128x576x9x770_0_1_2_3 main_v364
  let main_v367 : FVec F S128x576x9x770 .f32 := mulf main_v365 main_v366
  let main_cst_85 : FVec F S_ .f32 := constant S_ .f32 0x00000000#32
  let main_v368 : FVec F S128x576x9 .f32 := (fun x v => Host.reduceAdd x v reducesTo_S128x576x9x770_S128x576x9_d3 h_S_) main_v367 main_cst_85
  fn_part19 (F := F) main_arg1 main_v15 main_v359 main_v362 main_v368

def fn_part17 {F : FTy → Type} [FloatOps F] (main_arg1 : FVec F S128x576x9 .f32) (main_v15 : FVec F S128x576x770 .f32) (main_v320 : FVec F S128x1x9 .f32) (main_v328 : FVec F S128x576x9 .f32) (main_v329 : FVec F S128x576x9 .f32) : IVec S_ 1 :=
  let main_v330 : FVec F S128x576x9 .f32 := subf main_v329 main_v328
  let main_v331 : FVec F S128x576x9 .f32 := broadcastInDim S128x576x9 ![0, 1, 2] bcast_S128x1x9_S128x576x9_0_1_2 main_v320
  let main_v332 : FVec F S128x576x9 .f32 := addf main_v330 main_v331
  let main_v333 : FVec F S128x576x9 .f32 := Host.negf main_v332
  let main_cst_77 : FVec F S_ .f32 := constant S_ .f32 0xFF800000#32
  let main_v334 : FVec F S128x576 .f32 := (fun x v => Host.reduce FloatOps.maximumf x v reducesTo_S128x576x9_S128x576_d2 h_S_) main_v333 main_cst_77
  let main_cst_78 : FVec F S_ .f32 := constant S_ .f32 0xFF800000#32
  let main_v335 : FVec F S128x576 .f32 := broadcastInDim S128x576 ![] bcast_S_S128x576 main_cst_78
  let main_v336 : FVec F S128x576 .f32 := maximumf main_v335 main_v334
  let main_v337 : FVec F S128x576x1 .f32 := broadcastInDim S128x576x1 ![0, 1] bcast_S128x576_S128x576x1_0_1 main_v336
  let main_v338 : FVec F S128x576x9 .f32 := broadcastInDim S128x576x9 ![0, 1, 2] bcast_S128x576x1_S128x576x9_0_1_2 main_v337
  let main_v339 : FVec F S128x576x9 .f32 := subf main_v333 main_v338
  let main_v340 : FVec F S128x576x9 .f32 := Host.exp main_v339
  let main_cst_79 : FVec F S_ .f32 := constant S_ .f32 0x00000000#32
  let main_v341 : FVec F S128x576 .f32 := (fun x v => Host.reduceAdd x v reducesTo_S128x576x9_S128x576_d2 h_S_) main_v340 main_cst_79
  let main_v342 : FVec F S128x576x1 .f32 := broadcastInDim S128x576x1 ![0, 1] bcast_S128x576_S128x576x1_0_1 main_v341
  let main_v343 : FVec F S128x576x9 .f32 := broadcastInDim S128x576x9 ![0, 1, 2] bcast_S128x576x1_S128x576x9_0_1_2 main_v342
  let main_v344 : FVec F S128x576x9 .f32 := Host.divf main_v340 main_v343
  let main_cst_80 : FVec F S_ .f32 := constant S_ .f32 0x00000000#32
  let main_v345 : FVec F S128x9 .f32 := (fun x v => Host.reduceAdd x v reducesTo_S128x576x9_S128x9_d1 h_S_) main_v344 main_cst_80
  let main_v346 : FVec F S128x576x9x1 .f32 := broadcastInDim S128x576x9x1 ![0, 1, 2] bcast_S128x576x9_S128x576x9x1_0_1_2 main_v344
  let main_v347 : FVec F S128x576x1x770 .f32 := broadcastInDim S128x576x1x770 ![0, 1, 3] bcast_S128x576x770_S128x576x1x770_0_1_3 main_v15
  let main_v348 : FVec F S128x576x9x770 .f32 := broadcastInDim S128x576x9x770 ![0, 1, 2, 3] bcast_S128x576x9x1_S128x576x9x770_0_1_2_3 main_v346
  let main_v349 : FVec F S128x576x9x770 .f32 := broadcastInDim S128x576x9x770 ![0, 1, 2, 3] bcast_S128x576x1x770_S128x576x9x770_0_1_2_3 main_v347
  fn_part18 (F := F) main_arg1 main_v15 main_v345 main_v348 main_v349

def fn_part16 {F : FTy → Type} [FloatOps F] (main_arg1 : FVec F S128x576x9 .f32) (main_v15 : FVec F S128x576x770 .f32) (main_v309 : FVec F S128x9x770 .f32) (main_v310 : FVec F S128x9x1 .f32) : IVec S_ 1 :=
  let main_cst_72 : FVec F S_ .f32 := constant S_ .f32 0x322BCC77#32
  let main_v311 : FVec F S128x9x1 .f32 := broadcastInDim S128x9x1 ![] bcast_S_S128x9x1 main_cst_72
  let main_v312 : FVec F S128x9x1 .f32 := addf main_v310 main_v311
  let main_v313 : FVec F S128x9x770 .f32 := broadcastInDim S128x9x770 ![0, 1, 2] bcast_S128x9x1_S128x9x770_0_1_2 main_v312
  let main_v314 : FVec F S128x9x770 .f32 := Host.divf main_v309 main_v313
  let main_v315 : FVec F S128x576x770 .f32 := mulf main_v15 main_v15
  let main_cst_73 : FVec F S_ .f32 := constant S_ .f32 0x00000000#32
  let main_v316 : FVec F S128x576 .f32 := (fun x v => Host.reduceAdd x v reducesTo_S128x576x770_S128x576_d2 h_S_) main_v315 main_cst_73
  let main_v317 : FVec F S128x576x1 .f32 := broadcastInDim S128x576x1 ![0, 1] bcast_S128x576_S128x576x1_0_1 main_v316
  let main_v318 : FVec F S128x9x770 .f32 := mulf main_v314 main_v314
  let main_cst_74 : FVec F S_ .f32 := constant S_ .f32 0x00000000#32
  let main_v319 : FVec F S128x9 .f32 := (fun x v => Host.reduceAdd x v reducesTo_S128x9x770_S128x9_d2 h_S_) main_v318 main_cst_74
  let main_v320 : FVec F S128x1x9 .f32 := broadcastInDim S128x1x9 ![0, 2] bcast_S128x9_S128x1x9_0_2 main_v319
  let main_v321 : FVec F S128x576x1x770 .f32 := broadcastInDim S128x576x1x770 ![0, 1, 3] bcast_S128x576x770_S128x576x1x770_0_1_3 main_v15
  let main_v322 : FVec F S128x1x9x770 .f32 := broadcastInDim S128x1x9x770 ![0, 2, 3] bcast_S128x9x770_S128x1x9x770_0_2_3 main_v314
  let main_v323 : FVec F S128x576x9x770 .f32 := broadcastInDim S128x576x9x770 ![0, 1, 2, 3] bcast_S128x576x1x770_S128x576x9x770_0_1_2_3 main_v321
  let main_v324 : FVec F S128x576x9x770 .f32 := broadcastInDim S128x576x9x770 ![0, 1, 2, 3] bcast_S128x1x9x770_S128x576x9x770_0_1_2_3 main_v322
  let main_v325 : FVec F S128x576x9x770 .f32 := mulf main_v323 main_v324
  let main_cst_75 : FVec F S_ .f32 := constant S_ .f32 0x00000000#32
  let main_v326 : FVec F S128x576x9 .f32 := (fun x v => Host.reduceAdd x v reducesTo_S128x576x9x770_S128x576x9_d3 h_S_) main_v325 main_cst_75
  let main_cst_76 : FVec F S_ .f32 := constant S_ .f32 0x40000000#32
  let main_v327 : FVec F S128x576x9 .f32 := broadcastInDim S128x576x9 ![] bcast_S_S128x576x9 main_cst_76
  let main_v328 : FVec F S128x576x9 .f32 := mulf main_v327 main_v326
  let main_v329 : FVec F S128x576x9 .f32 := broadcastInDim S128x576x9 ![0, 1, 2] bcast_S128x576x1_S128x576x9_0_1_2 main_v317
  fn_part17 (F := F) main_arg1 main_v15 main_v320 main_v328 main_v329

def fn_part15 {F : FTy → Type} [FloatOps F] (main_arg1 : FVec F S128x576x9 .f32) (main_v15 : FVec F S128x576x770 .f32) (main_v291 : FVec F S128x576x9 .f32) : IVec S_ 1 :=
  let main_cst_67 : FVec F S_ .f32 := constant S_ .f32 0xFF800000#32
  let main_v292 : FVec F S128x576 .f32 := (fun x v => Host.reduce FloatOps.maximumf x v reducesTo_S128x576x9_S128x576_d2 h_S_) main_v291 main_cst_67
  let main_cst_68 : FVec F S_ .f32 := constant S_ .f32 0xFF800000#32
  let main_v293 : FVec F S128x576 .f32 := broadcastInDim S128x576 ![] bcast_S_S128x576 main_cst_68
  let main_v294 : FVec F S128x576 .f32 := maximumf main_v293 main_v292
  let main_v295 : FVec F S128x576x1 .f32 := broadcastInDim S128x576x1 ![0, 1] bcast_S128x576_S128x576x1_0_1 main_v294
  let main_v296 : FVec F S128x576x9 .f32 := broadcastInDim S128x576x9 ![0, 1, 2] bcast_S128x576x1_S128x576x9_0_1_2 main_v295
  let main_v297 : FVec F S128x576x9 .f32 := subf main_v291 main_v296
  let main_v298 : FVec F S128x576x9 .f32 := Host.exp main_v297
  let main_cst_69 : FVec F S_ .f32 := constant S_ .f32 0x00000000#32
  let main_v299 : FVec F S128x576 .f32 := (fun x v => Host.reduceAdd x v reducesTo_S128x576x9_S128x576_d2 h_S_) main_v298 main_cst_69
  let main_v300 : FVec F S128x576x1 .f32 := broadcastInDim S128x576x1 ![0, 1] bcast_S128x576_S128x576x1_0_1 main_v299
  let main_v301 : FVec F S128x576x9 .f32 := broadcastInDim S128x576x9 ![0, 1, 2] bcast_S128x576x1_S128x576x9_0_1_2 main_v300
  let main_v302 : FVec F S128x576x9 .f32 := Host.divf main_v298 main_v301
  let main_cst_70 : FVec F S_ .f32 := constant S_ .f32 0x00000000#32
  let main_v303 : FVec F S128x9 .f32 := (fun x v => Host.reduceAdd x v reducesTo_S128x576x9_S128x9_d1 h_S_) main_v302 main_cst_70
  let main_v304 : FVec F S128x576x9x1 .f32 := broadcastInDim S128x576x9x1 ![0, 1, 2] bcast_S128x576x9_S128x576x9x1_0_1_2 main_v302
  let main_v305 : FVec F S128x576x1x770 .f32 := broadcastInDim S128x576x1x770 ![0, 1, 3] bcast_S128x576x770_S128x576x1x770_0_1_3 main_v15
  let main_v306 : FVec F S128x576x9x770 .f32 := broadcastInDim S128x576x9x770 ![0, 1, 2, 3] bcast_S128x576x9x1_S128x576x9x770_0_1_2_3 main_v304
  let main_v307 : FVec F S128x576x9x770 .f32 := broadcastInDim S128x576x9x770 ![0, 1, 2, 3] bcast_S128x576x1x770_S128x576x9x770_0_1_2_3 main_v305
  let main_v308 : FVec F S128x576x9x770 .f32 := mulf main_v306 main_v307
  let main_cst_71 : FVec F S_ .f32 := constant S_ .f32 0x00000000#32
  let main_v309 : FVec F S128x9x770 .f32 := (fun x v => Host.reduceAdd x v reducesTo_S128x576x9x770_S128x9x770_d1 h_S_) main_v308 main_cst_71
  let main_v310 : FVec F S128x9x1 .f32 := broadcastInDim S128x9x1 ![0, 1] bcast_S128x9_S128x9x1_0_1 main_v303
  fn_part16 (F := F) main_arg1 main_v15 main_v309 main_v310

def fn_part14 {F : FTy → Type} [FloatOps F] (main_arg1 : FVec F S128x576x9 .f32) (main_v15 : FVec F S128x576x770 .f32) (main_v267 : FVec F S128x9x770 .f32) (main_v271 : FVec F S128x9x770 .f32) : IVec S_ 1 :=
  let main_v272 : FVec F S128x9x770 .f32 := Host.divf main_v267 main_v271
  let main_v273 : FVec F S128x576x770 .f32 := mulf main_v15 main_v15
  let main_cst_63 : FVec F S_ .f32 := constant S_ .f32 0x00000000#32
  let main_v274 : FVec F S128x576 .f32 := (fun x v => Host.reduceAdd x v reducesTo_S128x576x770_S128x576_d2 h_S_) main_v273 main_cst_63
  let main_v275 : FVec F S128x576x1 .f32 := broadcastInDim S128x576x1 ![0, 1] bcast_S128x576_S128x576x1_0_1 main_v274
  let main_v276 : FVec F S128x9x770 .f32 := mulf main_v272 main_v272
  let main_cst_64 : FVec F S_ .f32 := constant S_ .f32 0x00000000#32
  let main_v277 : FVec F S128x9 .f32 := (fun x v => Host.reduceAdd x v reducesTo_S128x9x770_S128x9_d2 h_S_) main_v276 main_cst_64
  let main_v278 : FVec F S128x1x9 .f32 := broadcastInDim S128x1x9 ![0, 2] bcast_S128x9_S128x1x9_0_2 main_v277
  let main_v279 : FVec F S128x576x1x770 .f32 := broadcastInDim S128x576x1x770 ![0, 1, 3] bcast_S128x576x770_S128x576x1x770_0_1_3 main_v15
  let main_v280 : FVec F S128x1x9x770 .f32 := broadcastInDim S128x1x9x770 ![0, 2, 3] bcast_S128x9x770_S128x1x9x770_0_2_3 main_v272
  let main_v281 : FVec F S128x576x9x770 .f32 := broadcastInDim S128x576x9x770 ![0, 1, 2, 3] bcast_S128x576x1x770_S128x576x9x770_0_1_2_3 main_v279
  let main_v282 : FVec F S128x576x9x770 .f32 := broadcastInDim S128x576x9x770 ![0, 1, 2, 3] bcast_S128x1x9x770_S128x576x9x770_0_1_2_3 main_v280
  let main_v283 : FVec F S128x576x9x770 .f32 := mulf main_v281 main_v282
  let main_cst_65 : FVec F S_ .f32 := constant S_ .f32 0x00000000#32
  let main_v284 : FVec F S128x576x9 .f32 := (fun x v => Host.reduceAdd x v reducesTo_S128x576x9x770_S128x576x9_d3 h_S_) main_v283 main_cst_65
  let main_cst_66 : FVec F S_ .f32 := constant S_ .f32 0x40000000#32
  let main_v285 : FVec F S128x576x9 .f32 := broadcastInDim S128x576x9 ![] bcast_S_S128x576x9 main_cst_66
  let main_v286 : FVec F S128x576x9 .f32 := mulf main_v285 main_v284
  let main_v287 : FVec F S128x576x9 .f32 := broadcastInDim S128x576x9 ![0, 1, 2] bcast_S128x576x1_S128x576x9_0_1_2 main_v275
  let main_v288 : FVec F S128x576x9 .f32 := subf main_v287 main_v286
  let main_v289 : FVec F S128x576x9 .f32 := broadcastInDim S128x576x9 ![0, 1, 2] bcast_S128x1x9_S128x576x9_0_1_2 main_v278
  let main_v290 : FVec F S128x576x9 .f32 := addf main_v288 main_v289
  let main_v291 : FVec F S128x576x9 .f32 := Host.negf main_v290
  fn_part15 (F := F) main_arg1 main_v15 main_v291

def fn_part13 {F : FTy → Type} [FloatOps F] (main_arg1 : FVec F S128x576x9 .f32) (main_v15 : FVec F S128x576x770 .f32) (main_v249 : FVec F S128x576x9 .f32) (main_v250 : FVec F S128x576 .f32) (main_v251 : FVec F S128x576 .f32) : IVec S_ 1 :=
  let main_v252 : FVec F S128x576 .f32 := maximumf main_v251 main_v250
  let main_v253 : FVec F S128x576x1 .f32 := broadcastInDim S128x576x1 ![0, 1] bcast_S128x576_S128x576x1_0_1 main_v252
  let main_v254 : FVec F S128x576x9 .f32 := broadcastInDim S128x576x9 ![0, 1, 2] bcast_S128x576x1_S128x576x9_0_1_2 main_v253
  let main_v255 : FVec F S128x576x9 .f32 := subf main_v249 main_v254
  let main_v256 : FVec F S128x576x9 .f32 := Host.exp main_v255
  let main_cst_59 : FVec F S_ .f32 := constant S_ .f32 0x00000000#32
  let main_v257 : FVec F S128x576 .f32 := (fun x v => Host.reduceAdd x v reducesTo_S128x576x9_S128x576_d2 h_S_) main_v256 main_cst_59
  let main_v258 : FVec F S128x576x1 .f32 := broadcastInDim S128x576x1 ![0, 1] bcast_S128x576_S128x576x1_0_1 main_v257
  let main_v259 : FVec F S128x576x9 .f32 := broadcastInDim S128x576x9 ![0, 1, 2] bcast_S128x576x1_S128x576x9_0_1_2 main_v258
  let main_v260 : FVec F S128x576x9 .f32 := Host.divf main_v256 main_v259
  let main_cst_60 : FVec F S_ .f32 := constant S_ .f32 0x00000000#32
  let main_v261 : FVec F S128x9 .f32 := (fun x v => Host.reduceAdd x v reducesTo_S128x576x9_S128x9_d1 h_S_) main_v260 main_cst_60
  let main_v262 : FVec F S128x576x9x1 .f32 := broadcastInDim S128x576x9x1 ![0, 1, 2] bcast_S128x576x9_S128x576x9x1_0_1_2 main_v260
  let main_v263 : FVec F S128x576x1x770 .f32 := broadcastInDim S128x576x1x770 ![0, 1, 3] bcast_S128x576x770_S128x576x1x770_0_1_3 main_v15
  let main_v264 : FVec F S128x576x9x770 .f32 := broadcastInDim S128x576x9x770 ![0, 1, 2, 3] bcast_S128x576x9x1_S128x576x9x770_0_1_2_3 main_v262
  let main_v265 : FVec F S128x576x9x770 .f32 := broadcastInDim S128x576x9x770 ![0, 1, 2, 3] bcast_S128x576x1x770_S128x576x9x770_0_1_2_3 main_v263
  let main_v266 : FVec F S128x576x9x770 .f32 := mulf main_v264 main_v265
  let main_cst_61 : FVec F S_ .f32 := constant S_ .f32 0x00000000#32
  let main_v267 : FVec F S128x9x770 .f32 := (fun x v => Host.reduceAdd x v reducesTo_S128x576x9x770_S128x9x770_d1 h_S_) main_v266 main_cst_61
  let main_v268 : FVec F S128x9x1 .f32 := broadcastInDim S128x9x1 ![0, 1] bcast_S128x9_S128x9x1_0_1 main_v261
  let main_cst_62 : FVec F S_ .f32 := constant S_ .f32 0x322BCC77#32
  let main_v269 : FVec F S128x9x1 .f32 := broadcastInDim S128x9x1 ![] bcast_S_S128x9x1 main_cst_62
  let main_v270 : FVec F S128x9x1 .f32 := addf main_v268 main_v269
  let main_v271 : FVec F S128x9x770 .f32 := broadcastInDim S128x9x770 ![0, 1, 2] bcast_S128x9x1_S128x9x770_0_1_2 main_v270
  fn_part14 (F := F) main_arg1 main_v15 main_v267 main_v271

def fn_part12 {F : FTy → Type} [FloatOps F] (main_arg1 : FVec F S128x576x9 .f32) (main_v15 : FVec F S128x576x770 .f32) (main_v230 : FVec F S128x9x770 .f32) (main_v232 : FVec F S128x576 .f32) : IVec S_ 1 :=
  let main_v233 : FVec F S128x576x1 .f32 := broadcastInDim S128x576x1 ![0, 1] bcast_S128x576_S128x576x1_0_1 main_v232
  let main_v234 : FVec F S128x9x770 .f32 := mulf main_v230 main_v230
  let main_cst_54 : FVec F S_ .f32 := constant S_ .f32 0x00000000#32
  let main_v235 : FVec F S128x9 .f32 := (fun x v => Host.reduceAdd x v reducesTo_S128x9x770_S128x9_d2 h_S_) main_v234 main_cst_54
  let main_v236 : FVec F S128x1x9 .f32 := broadcastInDim S128x1x9 ![0, 2] bcast_S128x9_S128x1x9_0_2 main_v235
  let main_v237 : FVec F S128x576x1x770 .f32 := broadcastInDim S128x576x1x770 ![0, 1, 3] bcast_S128x576x770_S128x576x1x770_0_1_3 main_v15
  let main_v238 : FVec F S128x1x9x770 .f32 := broadcastInDim S128x1x9x770 ![0, 2, 3] bcast_S128x9x770_S128x1x9x770_0_2_3 main_v230
  let main_v239 : FVec F S128x576x9x770 .f32 := broadcastInDim S128x576x9x770 ![0, 1, 2, 3] bcast_S128x576x1x770_S128x576x9x770_0_1_2_3 main_v237
  let main_v240 : FVec F S128x576x9x770 .f32 := broadcastInDim S128x576x9x770 ![0, 1, 2, 3] bcast_S128x1x9x770_S128x576x9x770_0_1_2_3 main_v238
  let main_v241 : FVec F S128x576x9x770 .f32 := mulf main_v239 main_v240
  let main_cst_55 : FVec F S_ .f32 := constant S_ .f32 0x00000000#32
  let main_v242 : FVec F S128x576x9 .f32 := (fun x v => Host.reduceAdd x v reducesTo_S128x576x9x770_S128x576x9_d3 h_S_) main_v241 main_cst_55
  let main_cst_56 : FVec F S_ .f32 := constant S_ .f32 0x40000000#32
  let main_v243 : FVec F S128x576x9 .f32 := broadcastInDim S128x576x9 ![] bcast_S_S128x576x9 main_cst_56
  let main_v244 : FVec F S128x576x9 .f32 := mulf main_v243 main_v242
  let main_v245 : FVec F S128x576x9 .f32 := broadcastInDim S128x576x9 ![0, 1, 2] bcast_S128x576x1_S128x576x9_0_1_2 main_v233
  let main_v246 : FVec F S128x576x9 .f32 := subf main_v245 main_v244
  let main_v247 : FVec F S128x576x9 .f32 := broadcastInDim S128x576x9 ![0, 1, 2] bcast_S128x1x9_S128x576x9_0_1_2 main_v236
  let main_v248 : FVec F S128x576x9 .f32 := addf main_v246 main_v247
  let main_v249 : FVec F S128x576x9 .f32 := Host.negf main_v248
  let main_cst_57 : FVec F S_ .f32 := constant S_ .f32 0xFF800000#32
  let main_v250 : FVec F S128x576 .f32 := (fun x v => Host.reduce FloatOps.maximumf x v reducesTo_S128x576x9_S128x576_d2 h_S_) main_v249 main_cst_57
  let main_cst_58 : FVec F S_ .f32 := constant S_ .f32 0xFF800000#32
  let main_v251 : FVec F S128x576 .f32 := broadcastInDim S128x576 ![] bcast_S_S128x576 main_cst_58
  fn_part13 (F := F) main_arg1 main_v15 main_v249 main_v250 main_v251

def fn_part11 {F : FTy → Type} [FloatOps F] (main_arg1 : FVec F S128x576x9 .f32) (main_v15 : FVec F S128x576x770 .f32) (main_v213 : FVec F S128x576x9 .f32) : IVec S_ 1 :=
  let main_v214 : FVec F S128x576x9 .f32 := Host.exp main_v213
  let main_cst_49 : FVec F S_ .f32 := constant S_ .f32 0x00000000#32
  let main_v215 : FVec F S128x576 .f32 := (fun x v => Host.reduceAdd x v reducesTo_S128x576x9_S128x576_d2 h_S_) main_v214 main_cst_49
  let main_v216 : FVec F S128x576x1 .f32 := broadcastInDim S128x576x1 ![0, 1] bcast_S128x576_S128x576x1_0_1 main_v215
  let main_v217 : FVec F S128x576x9 .f32 := broadcastInDim S128x576x9 ![0, 1, 2] bcast_S128x576x1_S128x576x9_0_1_2 main_v216
  let main_v218 : FVec F S128x576x9 .f32 := Host.divf main_v214 main_v217
  let main_cst_50 : FVec F S_ .f32 := constant S_ .f32 0x00000000#32
  let main_v219 : FVec F S128x9 .f32 := (fun x v => Host.reduceAdd x v reducesTo_S128x576x9_S128x9_d1 h_S_) main_v218 main_cst_50
  let main_v220 : FVec F S128x576x9x1 .f32 := broadcastInDim S128x576x9x1 ![0, 1, 2] bcast_S128x576x9_S128x576x9x1_0_1_2 main_v218
  let main_v221 : FVec F S128x576x1x770 .f32 := broadcastInDim S128x576x1x770 ![0, 1, 3] bcast_S128x576x770_S128x576x1x770_0_1_3 main_v15
  let main_v222 : FVec F S128x576x9x770 .f32 := broadcastInDim S128x576x9x770 ![0, 1, 2, 3] bcast_S128x576x9x1_S128x576x9x770_0_1_2_3 main_v220
  let main_v223 : FVec F S128x576x9x770 .f32 := broadcastInDim S128x576x9x770 ![0, 1, 2, 3] bcast_S128x576x1x770_S128x576x9x770_0_1_2_3 main_v221
  let main_v224 : FVec F S128x576x9x770 .f32 := mulf main_v222 main_v223
  let main_cst_51 : FVec F S_ .f32 := constant S_ .f32 0x00000000#32
  let main_v225 : FVec F S128x9x770 .f32 := (fun x v => Host.reduceAdd x v reducesTo_S128x576x9x770_S128x9x770_d1 h_S_) main_v224 main_cst_51
  let main_v226 : FVec F S128x9x1 .f32 := broadcastInDim S128x9x1 ![0, 1] bcast_S128x9_S128x9x1_0_1 main_v219
  let main_cst_52 : FVec F S_ .f32 := constant S_ .f32 0x322BCC77#32
  let main_v227 : FVec F S128x9x1 .f32 := broadcastInDim S128x9x1 ![] bcast_S_S128x9x1 main_cst_52
  let main_v228 : FVec F S128x9x1 .f32 := addf main_v226 main_v227
  let main_v229 : FVec F S128x9x770 .f32 := broadcastInDim S128x9x770 ![0, 1, 2] bcast_S128x9x1_S128x9x770_0_1_2 main_v228
  let main_v230 : FVec F S128x9x770 .f32 := Host.divf main_v225 main_v229
  let main_v231 : FVec F S128x576x770 .f32 := mulf main_v15 main_v15
  let main_cst_53 : FVec F S_ .f32 := constant S_ .f32 0x00000000#32
  let main_v232 : FVec F S128x576 .f32 := (fun x v => Host.reduceAdd x v reducesTo_S128x576x770_S128x576_d2 h_S_) main_v231 main_cst_53
  fn_part12 (F := F) main_arg1 main_v15 main_v230 main_v232

def fn_part10 {F : FTy → Type} [FloatOps F] (main_arg1 : FVec F S128x576x9 .f32) (main_v15 : FVec F S128x576x770 .f32) (main_v188 : FVec F S128x9x770 .f32) (main_v191 : FVec F S128x576x1 .f32) (main_v193 : FVec F S128x9 .f32) : IVec S_ 1 :=
  let main_v194 : FVec F S128x1x9 .f32 := broadcastInDim S128x1x9 ![0, 2] bcast_S128x9_S128x1x9_0_2 main_v193
  let main_v195 : FVec F S128x576x1x770 .f32 := broadcastInDim S128x576x1x770 ![0, 1, 3] bcast_S128x576x770_S128x576x1x770_0_1_3 main_v15
  let main_v196 : FVec F S128x1x9x770 .f32 := broadcastInDim S128x1x9x770 ![0, 2, 3] bcast_S128x9x770_S128x1x9x770_0_2_3 main_v188
  let main_v197 : FVec F S128x576x9x770 .f32 := broadcastInDim S128x576x9x770 ![0, 1, 2, 3] bcast_S128x576x1x770_S128x576x9x770_0_1_2_3 main_v195
  let main_v198 : FVec F S128x576x9x770 .f32 := broadcastInDim S128x576x9x770 ![0, 1, 2, 3] bcast_S128x1x9x770_S128x576x9x770_0_1_2_3 main_v196
  let main_v199 : FVec F S128x576x9x770 .f32 := mulf main_v197 main_v198
  let main_cst_45 : FVec F S_ .f32 := constant S_ .f32 0x00000000#32
  let main_v200 : FVec F S128x576x9 .f32 := (fun x v => Host.reduceAdd x v reducesTo_S128x576x9x770_S128x576x9_d3 h_S_) main_v199 main_cst_45
  let main_cst_46 : FVec F S_ .f32 := constant S_ .f32 0x40000000#32
  let main_v201 : FVec F S128x576x9 .f32 := broadcastInDim S128x576x9 ![] bcast_S_S128x576x9 main_cst_46
  let main_v202 : FVec F S128x576x9 .f32 := mulf main_v201 main_v200
  let main_v203 : FVec F S128x576x9 .f32 := broadcastInDim S128x576x9 ![0, 1, 2] bcast_S128x576x1_S128x576x9_0_1_2 main_v191
  let main_v204 : FVec F S128x576x9 .f32 := subf main_v203 main_v202
  let main_v205 : FVec F S128x576x9 .f32 := broadcastInDim S128x576x9 ![0, 1, 2] bcast_S128x1x9_S128x576x9_0_1_2 main_v194
  let main_v206 : FVec F S128x576x9 .f32 := addf main_v204 main_v205
  let main_v207 : FVec F S128x576x9 .f32 := Host.negf main_v206
  let main_cst_47 : FVec F S_ .f32 := constant S_ .f32 0xFF800000#32
  let main_v208 : FVec F S128x576 .f32 := (fun x v => Host.reduce FloatOps.maximumf x v reducesTo_S128x576x9_S128x576_d2 h_S_) main_v207 main_cst_47
  let main_cst_48 : FVec F S_ .f32 := constant S_ .f32 0xFF800000#32
  let main_v209 : FVec F S128x576 .f32 := broadcastInDim S128x576 ![] bcast_S_S128x576 main_cst_48
  let main_v210 : FVec F S128x576 .f32 := maximumf main_v209 main_v208
  let main_v211 : FVec F S128x576x1 .f32 := broadcastInDim S128x576x1 ![0, 1] bcast_S128x576_S128x576x1_0_1 main_v210
  let main_v212 : FVec F S128x576x9 .f32 := broadcastInDim S128x576x9 ![0, 1, 2] bcast_S128x576x1_S128x576x9_0_1_2 main_v211
  let main_v213 : FVec F S128x576x9 .f32 := subf main_v207 main_v212
  fn_part11 (F := F) main_arg1 main_v15 main_v213

def fn_part9 {F : FTy → Type} [FloatOps F] (main_arg1 : FVec F S128x576x9 .f32) (main_v15 : FVec F S128x576x770 .f32) (main_v172 : FVec F S128x576x9 .f32) (main_v174 : FVec F S128x576x1 .f32) : IVec S_ 1 :=
  let main_v175 : FVec F S128x576x9 .f32 := broadcastInDim S128x576x9 ![0, 1, 2] bcast_S128x576x1_S128x576x9_0_1_2 main_v174
  let main_v176 : FVec F S128x576x9 .f32 := Host.divf main_v172 main_v175
  let main_cst_40 : FVec F S_ .f32 := constant S_ .f32 0x00000000#32
  let main_v177 : FVec F S128x9 .f32 := (fun x v => Host.reduceAdd x v reducesTo_S128x576x9_S128x9_d1 h_S_) main_v176 main_cst_40
  let main_v178 : FVec F S128x576x9x1 .f32 := broadcastInDim S128x576x9x1 ![0, 1, 2] bcast_S128x576x9_S128x576x9x1_0_1_2 main_v176
  let main_v179 : FVec F S128x576x1x770 .f32 := broadcastInDim S128x576x1x770 ![0, 1, 3] bcast_S128x576x770_S128x576x1x770_0_1_3 main_v15
  let main_v180 : FVec F S128x576x9x770 .f32 := broadcastInDim S128x576x9x770 ![0, 1, 2, 3] bcast_S128x576x9x1_S128x576x9x770_0_1_2_3 main_v178
  let main_v181 : FVec F S128x576x9x770 .f32 := broadcastInDim S128x576x9x770 ![0, 1, 2, 3] bcast_S128x576x1x770_S128x576x9x770_0_1_2_3 main_v179
  let main_v182 : FVec F S128x576x9x770 .f32 := mulf main_v180 main_v181
  let main_cst_41 : FVec F S_ .f32 := constant S_ .f32 0x00000000#32
  let main_v183 : FVec F S128x9x770 .f32 := (fun x v => Host.reduceAdd x v reducesTo_S128x576x9x770_S128x9x770_d1 h_S_) main_v182 main_cst_41
  let main_v184 : FVec F S128x9x1 .f32 := broadcastInDim S128x9x1 ![0, 1] bcast_S128x9_S128x9x1_0_1 main_v177
  let main_cst_42 : FVec F S_ .f32 := constant S_ .f32 0x322BCC77#32
  let main_v185 : FVec F S128x9x1 .f32 := broadcastInDim S128x9x1 ![] bcast_S_S128x9x1 main_cst_42
  let main_v186 : FVec F S128x9x1 .f32 := addf main_v184 main_v185
  let main_v187 : FVec F S128x9x770 .f32 := broadcastInDim S128x9x770 ![0, 1, 2] bcast_S128x9x1_S128x9x770_0_1_2 main_v186
  let main_v188 : FVec F S128x9x770 .f32 := Host.divf main_v183 main_v187
  let main_v189 : FVec F S128x576x770 .f32 := mulf main_v15 main_v15
  let main_cst_43 : FVec F S_ .f32 := constant S_ .f32 0x00000000#32
  let main_v190 : FVec F S128x576 .f32 := (fun x v => Host.reduceAdd x v reducesTo_S128x576x770_S128x576_d2 h_S_) main_v189 main_cst_43
  let main_v191 : FVec F S128x576x1 .f32 := broadcastInDim S128x576x1 ![0, 1] bcast_S128x576_S128x576x1_0_1 main_v190
  let main_v192 : FVec F S128x9x770 .f32 := mulf main_v188 main_v188
  let main_cst_44 : FVec F S_ .f32 := constant S_ .f32 0x00000000#32
  let main_v193 : FVec F S128x9 .f32 := (fun x v => Host.reduceAdd x v reducesTo_S128x9x770_S128x9_d2 h_S_) main_v192 main_cst_44
  fn_part10 (F := F) main_arg1 main_v15 main_v188 main_v191 main_v193

def fn_part8 {F : FTy → Type} [FloatOps F] (main_arg1 : FVec F S128x576x9 .f32) (main_v15 : FVec F S128x576x770 .f32) (main_v149 : FVec F S128x576x1 .f32) (main_v152 : FVec F S128x1x9 .f32) (main_v154 : FVec F S128x1x9x770 .f32) (main_v155 : FVec F S128x576x9x770 .f32) : IVec S_ 1 :=
  let main_v156 : FVec F S128x576x9x770 .f32 := broadcastInDim S128x576x9x770 ![0, 1, 2, 3] bcast_S128x1x9x770_S128x576x9x770_0_1_2_3 main_v154
  let main_v157 : FVec F S128x576x9x770 .f32 := mulf main_v155 main_v156
  let main_cst_35 : FVec F S_ .f32 := constant S_ .f32 0x00000000#32
  let main_v158 : FVec F S128x576x9 .f32 := (fun x v => Host.reduceAdd x v reducesTo_S128x576x9x770_S128x576x9_d3 h_S_) main_v157 main_cst_35
  let main_cst_36 : FVec F S_ .f32 := constant S_ .f32 0x40000000#32
  let main_v159 : FVec F S128x576x9 .f32 := broadcastInDim S128x576x9 ![] bcast_S_S128x576x9 main_cst_36
  let main_v160 : FVec F S128x576x9 .f32 := mulf main_v159 main_v158
  let main_v161 : FVec F S128x576x9 .f32 := broadcastInDim S128x576x9 ![0, 1, 2] bcast_S128x576x1_S128x576x9_0_1_2 main_v149
  let main_v162 : FVec F S128x576x9 .f32 := subf main_v161 main_v160
  let main_v163 : FVec F S128x576x9 .f32 := broadcastInDim S128x576x9 ![0, 1, 2] bcast_S128x1x9_S128x576x9_0_1_2 main_v152
  let main_v164 : FVec F S128x576x9 .f32 := addf main_v162 main_v163
  let main_v165 : FVec F S128x576x9 .f32 := Host.negf main_v164
  let main_cst_37 : FVec F S_ .f32 := constant S_ .f32 0xFF800000#32
  let main_v166 : FVec F S128x576 .f32 := (fun x v => Host.reduce FloatOps.maximumf x v reducesTo_S128x576x9_S128x576_d2 h_S_) main_v165 main_cst_37
  let main_cst_38 : FVec F S_ .f32 := constant S_ .f32 0xFF800000#32
  let main_v167 : FVec F S128x576 .f32 := broadcastInDim S128x576 ![] bcast_S_S128x576 main_cst_38
  let main_v168 : FVec F S128x576 .f32 := maximumf main_v167 main_v166
  let main_v169 : FVec F S128x576x1 .f32 := broadcastInDim S128x576x1 ![0, 1] bcast_S128x576_S128x576x1_0_1 main_v168
  let main_v170 : FVec F S128x576x9 .f32 := broadcastInDim S128x576x9 ![0, 1, 2] bcast_S128x576x1_S128x576x9_0_1_2 main_v169
  let main_v171 : FVec F S128x576x9 .f32 := subf main_v165 main_v170
  let main_v172 : FVec F S128x576x9 .f32 := Host.exp main_v171
  let main_cst_39 : FVec F S_ .f32 := constant S_ .f32 0x00000000#32
  let main_v173 : FVec F S128x576 .f32 := (fun x v => Host.reduceAdd x v reducesTo_S128x576x9_S128x576_d2 h_S_) main_v172 main_cst_39
  let main_v174 : FVec F S128x576x1 .f32 := broadcastInDim S128x576x1 ![0, 1] bcast_S128x576_S128x576x1_0_1 main_v173
  fn_part9 (F := F) main_arg1 main_v15 main_v172 main_v174

def fn_part7 {F : FTy → Type} [FloatOps F] (main_arg1 : FVec F S128x576x9 .f32) (main_v15 : FVec F S128x576x770 .f32) (main_v134 : FVec F S128x576x9 .f32) (main_v135 : FVec F S128x9 .f32) : IVec S_ 1 :=
  let main_v136 : FVec F S128x576x9x1 .f32 := broadcastInDim S128x576x9x1 ![0, 1, 2] bcast_S128x576x9_S128x576x9x1_0_1_2 main_v134
  let main_v137 : FVec F S128x576x1x770 .f32 := broadcastInDim S128x576x1x770 ![0, 1, 3] bcast_S128x576x770_S128x576x1x770_0_1_3 main_v15
  let main_v138 : FVec F S128x576x9x770 .f32 := broadcastInDim S128x576x9x770 ![0, 1, 2, 3] bcast_S128x576x9x1_S128x576x9x770_0_1_2_3 main_v136
  let main_v139 : FVec F S128x576x9x770 .f32 := broadcastInDim S128x576x9x770 ![0, 1, 2, 3] bcast_S128x576x1x770_S128x576x9x770_0_1_2_3 main_v137
  let main_v140 : FVec F S128x576x9x770 .f32 := mulf main_v138 main_v139
  let main_cst_31 : FVec F S_ .f32 := constant S_ .f32 0x00000000#32
  let main_v141 : FVec F S128x9x770 .f32 := (fun x v => Host.reduceAdd x v reducesTo_S128x576x9x770_S128x9x770_d1 h_S_) main_v140 main_cst_31
  let main_v142 : FVec F S128x9x1 .f32 := broadcastInDim S128x9x1 ![0, 1] bcast_S128x9_S128x9x1_0_1 main_v135
  let main_cst_32 : FVec F S_ .f32 := constant S_ .f32 0x322BCC77#32
  let main_v143 : FVec F S128x9x1 .f32 := broadcastInDim S128x9x1 ![] bcast_S_S128x9x1 main_cst_32
  let main_v144 : FVec F S128x9x1 .f32 := addf main_v142 main_v143
  let main_v145 : FVec F S128x9x770 .f32 := broadcastInDim S128x9x770 ![0, 1, 2] bcast_S128x9x1_S128x9x770_0_1_2 main_v144
  let main_v146 : FVec F S128x9x770 .f32 := Host.divf main_v141 main_v145
  let main_v147 : FVec F S128x576x770 .f32 := mulf main_v15 main_v15
  let main_cst_33 : FVec F S_ .f32 := constant S_ .f32 0x00000000#32
  let main_v148 : FVec F S128x576 .f32 := (fun x v => Host.reduceAdd x v reducesTo_S128x576x770_S128x576_d2 h_S_) main_v147 main_cst_33
  let main_v149 : FVec F S128x576x1 .f32 := broadcastInDim S128x576x1 ![0, 1] bcast_S128x576_S128x576x1_0_1 main_v148
  let main_v150 : FVec F S128x9x770 .f32 := mulf main_v146 main_v146
  let main_cst_34 : FVec F S_ .f32 := constant S_ .f32 0x00000000#32
  let main_v151 : FVec F S128x9 .f32 := (fun x v => Host.reduceAdd x v reducesTo_S128x9x770_S128x9_d2 h_S_) main_v150 main_cst_34
  let main_v152 : FVec F S128x1x9 .f32 := broadcastInDim S128x1x9 ![0, 2] bcast_S128x9_S128x1x9_0_2 main_v151
  let main_v153 : FVec F S128x576x1x770 .f32 := broadcastInDim S128x576x1x770 ![0, 1, 3] bcast_S128x576x770_S128x576x1x770_0_1_3 main_v15
  let main_v154 : FVec F S128x1x9x770 .f32 := broadcastInDim S128x1x9x770 ![0, 2, 3] bcast_S128x9x770_S128x1x9x770_0_2_3 main_v146
  let main_v155 : FVec F S128x576x9x770 .f32 := broadcastInDim S128x576x9x770 ![0, 1, 2, 3] bcast_S128x576x1x770_S128x576x9x770_0_1_2_3 main_v153
  fn_part8 (F := F) main_arg1 main_v15 main_v149 main_v152 main_v154 main_v155

def fn_part6 {F : FTy → Type} [FloatOps F] (main_arg1 : FVec F S128x576x9 .f32) (main_v15 : FVec F S128x576x770 .f32) (main_v107 : FVec F S128x576x1 .f32) (main_v110 : FVec F S128x1x9 .f32) (main_v116 : FVec F S128x576x9 .f32) : IVec S_ 1 :=
  let main_cst_26 : FVec F S_ .f32 := constant S_ .f32 0x40000000#32
  let main_v117 : FVec F S128x576x9 .f32 := broadcastInDim S128x576x9 ![] bcast_S_S128x576x9 main_cst_26
  let main_v118 : FVec F S128x576x9 .f32 := mulf main_v117 main_v116
  let main_v119 : FVec F S128x576x9 .f32 := broadcastInDim S128x576x9 ![0, 1, 2] bcast_S128x576x1_S128x576x9_0_1_2 main_v107
  let main_v120 : FVec F S128x576x9 .f32 := subf main_v119 main_v118
  let main_v121 : FVec F S128x576x9 .f32 := broadcastInDim S128x576x9 ![0, 1, 2] bcast_S128x1x9_S128x576x9_0_1_2 main_v110
  let main_v122 : FVec F S128x576x9 .f32 := addf main_v120 main_v121
  let main_v123 : FVec F S128x576x9 .f32 := Host.negf main_v122
  let main_cst_27 : FVec F S_ .f32 := constant S_ .f32 0xFF800000#32
  let main_v124 : FVec F S128x576 .f32 := (fun x v => Host.reduce FloatOps.maximumf x v reducesTo_S128x576x9_S128x576_d2 h_S_) main_v123 main_cst_27
  let main_cst_28 : FVec F S_ .f32 := constant S_ .f32 0xFF800000#32
  let main_v125 : FVec F S128x576 .f32 := broadcastInDim S128x576 ![] bcast_S_S128x576 main_cst_28
  let main_v126 : FVec F S128x576 .f32 := maximumf main_v125 main_v124
  let main_v127 : FVec F S128x576x1 .f32 := broadcastInDim S128x576x1 ![0, 1] bcast_S128x576_S128x576x1_0_1 main_v126
  let main_v128 : FVec F S128x576x9 .f32 := broadcastInDim S128x576x9 ![0, 1, 2] bcast_S128x576x1_S128x576x9_0_1_2 main_v127
  let main_v129 : FVec F S128x576x9 .f32 := subf main_v123 main_v128
  let main_v130 : FVec F S128x576x9 .f32 := Host.exp main_v129
  let main_cst_29 : FVec F S_ .f32 := constant S_ .f32 0x00000000#32
  let main_v131 : FVec F S128x576 .f32 := (fun x v => Host.reduceAdd x v reducesTo_S128x576x9_S128x576_d2 h_S_) main_v130 main_cst_29
  let main_v132 : FVec F S128x576x1 .f32 := broadcastInDim S128x576x1 ![0, 1] bcast_S128x576_S128x576x1_0_1 main_v131
  let main_v133 : FVec F S128x576x9 .f32 := broadcastInDim S128x576x9 ![0, 1, 2] bcast_S128x576x1_S128x576x9_0_1_2 main_v132
  let main_v134 : FVec F S128x576x9 .f32 := Host.divf main_v130 main_v133
  let main_cst_30 : FVec F S_ .f32 := constant S_ .f32 0x00000000#32
  let main_v135 : FVec F S128x9 .f32 := (fun x v => Host.reduceAdd x v reducesTo_S128x576x9_S128x9_d1 h_S_) main_v134 main_cst_30
  fn_part7 (F := F) main_arg1 main_v15 main_v134 main_v135

def fn_part5 {F : FTy → Type} [FloatOps F] (main_arg1 : FVec F S128x576x9 .f32) (main_v15 : FVec F S128x576x770 .f32) (main_v93 : FVec F S128x9 .f32) (main_v96 : FVec F S128x576x9x770 .f32) (main_v97 : FVec F S128x576x9x770 .f32) : IVec S_ 1 :=
  let main_v98 : FVec F S128x576x9x770 .f32 := mulf main_v96 main_v97
  let main_cst_21 : FVec F S_ .f32 := constant S_ .f32 0x00000000#32
  let main_v99 : FVec F S128x9x770 .f32 := (fun x v => Host.reduceAdd x v reducesTo_S128x576x9x770_S128x9x770_d1 h_S_) main_v98 main_cst_21
  let main_v100 : FVec F S128x9x1 .f32 := broadcastInDim S128x9x1 ![0, 1] bcast_S128x9_S128x9x1_0_1 main_v93
  let main_cst_22 : FVec F S_ .f32 := constant S_ .f32 0x322BCC77#32
  let main_v101 : FVec F S128x9x1 .f32 := broadcastInDim S128x9x1 ![] bcast_S_S128x9x1 main_cst_22
  let main_v102 : FVec F S128x9x1 .f32 := addf main_v100 main_v101
  let main_v103 : FVec F S128x9x770 .f32 := broadcastInDim S128x9x770 ![0, 1, 2] bcast_S128x9x1_S128x9x770_0_1_2 main_v102
  let main_v104 : FVec F S128x9x770 .f32 := Host.divf main_v99 main_v103
  let main_v105 : FVec F S128x576x770 .f32 := mulf main_v15 main_v15
  let main_cst_23 : FVec F S_ .f32 := constant S_ .f32 0x00000000#32
  let main_v106 : FVec F S128x576 .f32 := (fun x v => Host.reduceAdd x v reducesTo_S128x576x770_S128x576_d2 h_S_) main_v105 main_cst_23
  let main_v107 : FVec F S128x576x1 .f32 := broadcastInDim S128x576x1 ![0, 1] bcast_S128x576_S128x576x1_0_1 main_v106
  let main_v108 : FVec F S128x9x770 .f32 := mulf main_v104 main_v104
  let main_cst_24 : FVec F S_ .f32 := constant S_ .f32 0x00000000#32
  let main_v109 : FVec F S128x9 .f32 := (fun x v => Host.reduceAdd x v reducesTo_S128x9x770_S128x9_d2 h_S_) main_v108 main_cst_24
  let main_v110 : FVec F S128x1x9 .f32 := broadcastInDim S128x1x9 ![0, 2] bcast_S128x9_S128x1x9_0_2 main_v109
  let main_v111 : FVec F S128x576x1x770 .f32 := broadcastInDim S128x576x1x770 ![0, 1, 3] bcast_S128x576x770_S128x576x1x770_0_1_3 main_v15
  let main_v112 : FVec F S128x1x9x770 .f32 := broadcastInDim S128x1x9x770 ![0, 2, 3] bcast_S128x9x770_S128x1x9x770_0_2_3 main_v104
  let main_v113 : FVec F S128x576x9x770 .f32 := broadcastInDim S128x576x9x770 ![0, 1, 2, 3] bcast_S128x576x1x770_S128x576x9x770_0_1_2_3 main_v111
  let main_v114 : FVec F S128x576x9x770 .f32 := broadcastInDim S128x576x9x770 ![0, 1, 2, 3] bcast_S128x1x9x770_S128x576x9x770_0_1_2_3 main_v112
  let main_v115 : FVec F S128x576x9x770 .f32 := mulf main_v113 main_v114
  let main_cst_25 : FVec F S_ .f32 := constant S_ .f32 0x00000000#32
  let main_v116 : FVec F S128x576x9 .f32 := (fun x v => Host.reduceAdd x v reducesTo_S128x576x9x770_S128x576x9_d3 h_S_) main_v115 main_cst_25
  fn_part6 (F := F) main_arg1 main_v15 main_v107 main_v110 main_v116

def fn_part4 {F : FTy → Type} [FloatOps F] (main_arg1 : FVec F S128x576x9 .f32) (main_v15 : FVec F S128x576x770 .f32) (main_v68 : FVec F S128x1x9 .f32) (main_v76 : FVec F S128x576x9 .f32) (main_v77 : FVec F S128x576x9 .f32) : IVec S_ 1 :=
  let main_v78 : FVec F S128x576x9 .f32 := subf main_v77 main_v76
  let main_v79 : FVec F S128x576x9 .f32 := broadcastInDim S128x576x9 ![0, 1, 2] bcast_S128x1x9_S128x576x9_0_1_2 main_v68
  let main_v80 : FVec F S128x576x9 .f32 := addf main_v78 main_v79
  let main_v81 : FVec F S128x576x9 .f32 := Host.negf main_v80
  let main_cst_17 : FVec F S_ .f32 := constant S_ .f32 0xFF800000#32
  let main_v82 : FVec F S128x576 .f32 := (fun x v => Host.reduce FloatOps.maximumf x v reducesTo_S128x576x9_S128x576_d2 h_S_) main_v81 main_cst_17
  let main_cst_18 : FVec F S_ .f32 := constant S_ .f32 0xFF800000#32
  let main_v83 : FVec F S128x576 .f32 := broadcastInDim S128x576 ![] bcast_S_S128x576 main_cst_18
  let main_v84 : FVec F S128x576 .f32 := maximumf main_v83 main_v82
  let main_v85 : FVec F S128x576x1 .f32 := broadcastInDim S128x576x1 ![0, 1] bcast_S128x576_S128x576x1_0_1 main_v84
  let main_v86 : FVec F S128x576x9 .f32 := broadcastInDim S128x576x9 ![0, 1, 2] bcast_S128x576x1_S128x576x9_0_1_2 main_v85
  let main_v87 : FVec F S128x576x9 .f32 := subf main_v81 main_v86
  let main_v88 : FVec F S128x576x9 .f32 := Host.exp main_v87
  let main_cst_19 : FVec F S_ .f32 := constant S_ .f32 0x00000000#32
  let main_v89 : FVec F S128x576 .f32 := (fun x v => Host.reduceAdd x v reducesTo_S128x576x9_S128x576_d2 h_S_) main_v88 main_cst_19
  let main_v90 : FVec F S128x576x1 .f32 := broadcastInDim S128x576x1 ![0, 1] bcast_S128x576_S128x576x1_0_1 main_v89
  let main_v91 : FVec F S128x576x9 .f32 := broadcastInDim S128x576x9 ![0, 1, 2] bcast_S128x576x1_S128x576x9_0_1_2 main_v90
  let main_v92 : FVec F S128x576x9 .f32 := Host.divf main_v88 main_v91
  let main_cst_20 : FVec F S_ .f32 := constant S_ .f32 0x00000000#32
  let main_v93 : FVec F S128x9 .f32 := (fun x v => Host.reduceAdd x v reducesTo_S128x576x9_S128x9_d1 h_S_) main_v92 main_cst_20
  let main_v94 : FVec F S128x576x9x1 .f32 := broadcastInDim S128x576x9x1 ![0, 1, 2] bcast_S128x576x9_S128x576x9x1_0_1_2 main_v92
  let main_v95 : FVec F S128x576x1x770 .f32 := broadcastInDim S128x576x1x770 ![0, 1, 3] bcast_S128x576x770_S128x576x1x770_0_1_3 main_v15
  let main_v96 : FVec F S128x576x9x770 .f32 := broadcastInDim S128x576x9x770 ![0, 1, 2, 3] bcast_S128x576x9x1_S128x576x9x770_0_1_2_3 main_v94
  let main_v97 : FVec F S128x576x9x770 .f32 := broadcastInDim S128x576x9x770 ![0, 1, 2, 3] bcast_S128x576x1x770_S128x576x9x770_0_1_2_3 main_v95
  fn_part5 (F := F) main_arg1 main_v15 main_v93 main_v96 main_v97

def fn_part3 {F : FTy → Type} [FloatOps F] (main_arg1 : FVec F S128x576x9 .f32) (main_v15 : FVec F S128x576x770 .f32) (main_v57 : FVec F S128x9x770 .f32) (main_v58 : FVec F S128x9x1 .f32) : IVec S_ 1 :=
  let main_cst_12 : FVec F S_ .f32 := constant S_ .f32 0x322BCC77#32
  let main_v59 : FVec F S128x9x1 .f32 := broadcastInDim S128x9x1 ![] bcast_S_S128x9x1 main_cst_12
  let main_v60 : FVec F S128x9x1 .f32 := addf main_v58 main_v59
  let main_v61 : FVec F S128x9x770 .f32 := broadcastInDim S128x9x770 ![0, 1, 2] bcast_S128x9x1_S128x9x770_0_1_2 main_v60
  let main_v62 : FVec F S128x9x770 .f32 := Host.divf main_v57 main_v61
  let main_v63 : FVec F S128x576x770 .f32 := mulf main_v15 main_v15
  let main_cst_13 : FVec F S_ .f32 := constant S_ .f32 0x00000000#32
  let main_v64 : FVec F S128x576 .f32 := (fun x v => Host.reduceAdd x v reducesTo_S128x576x770_S128x576_d2 h_S_) main_v63 main_cst_13
  let main_v65 : FVec F S128x576x1 .f32 := broadcastInDim S128x576x1 ![0, 1] bcast_S128x576_S128x576x1_0_1 main_v64
  let main_v66 : FVec F S128x9x770 .f32 := mulf main_v62 main_v62
  let main_cst_14 : FVec F S_ .f32 := constant S_ .f32 0x00000000#32
  let main_v67 : FVec F S128x9 .f32 := (fun x v => Host.reduceAdd x v reducesTo_S128x9x770_S128x9_d2 h_S_) main_v66 main_cst_14
  let main_v68 : FVec F S128x1x9 .f32 := broadcastInDim S128x1x9 ![0, 2] bcast_S128x9_S128x1x9_0_2 main_v67
  let main_v69 : FVec F S128x576x1x770 .f32 := broadcastInDim S128x576x1x770 ![0, 1, 3] bcast_S128x576x770_S128x576x1x770_0_1_3 main_v15
  let main_v70 : FVec F S128x1x9x770 .f32 := broadcastInDim S128x1x9x770 ![0, 2, 3] bcast_S128x9x770_S128x1x9x770_0_2_3 main_v62
  let main_v71 : FVec F S128x576x9x770 .f32 := broadcastInDim S128x576x9x770 ![0, 1, 2, 3] bcast_S128x576x1x770_S128x576x9x770_0_1_2_3 main_v69
  let main_v72 : FVec F S128x576x9x770 .f32 := broadcastInDim S128x576x9x770 ![0, 1, 2, 3] bcast_S128x1x9x770_S128x576x9x770_0_1_2_3 main_v70
  let main_v73 : FVec F S128x576x9x770 .f32 := mulf main_v71 main_v72
  let main_cst_15 : FVec F S_ .f32 := constant S_ .f32 0x00000000#32
  let main_v74 : FVec F S128x576x9 .f32 := (fun x v => Host.reduceAdd x v reducesTo_S128x576x9x770_S128x576x9_d3 h_S_) main_v73 main_cst_15
  let main_cst_16 : FVec F S_ .f32 := constant S_ .f32 0x40000000#32
  let main_v75 : FVec F S128x576x9 .f32 := broadcastInDim S128x576x9 ![] bcast_S_S128x576x9 main_cst_16
  let main_v76 : FVec F S128x576x9 .f32 := mulf main_v75 main_v74
  let main_v77 : FVec F S128x576x9 .f32 := broadcastInDim S128x576x9 ![0, 1, 2] bcast_S128x576x1_S128x576x9_0_1_2 main_v65
  fn_part4 (F := F) main_arg1 main_v15 main_v68 main_v76 main_v77

def fn_part2 {F : FTy → Type} [FloatOps F] (main_arg1 : FVec F S128x576x9 .f32) (main_v15 : FVec F S128x576x770 .f32) (main_v39 : FVec F S128x576x9 .f32) : IVec S_ 1 :=
  let main_cst_7 : FVec F S_ .f32 := constant S_ .f32 0xFF800000#32
  let main_v40 : FVec F S128x576 .f32 := (fun x v => Host.reduce FloatOps.maximumf x v reducesTo_S128x576x9_S128x576_d2 h_S_) main_v39 main_cst_7
  let main_cst_8 : FVec F S_ .f32 := constant S_ .f32 0xFF800000#32
  let main_v41 : FVec F S128x576 .f32 := broadcastInDim S128x576 ![] bcast_S_S128x576 main_cst_8
  let main_v42 : FVec F S128x576 .f32 := maximumf main_v41 main_v40
  let main_v43 : FVec F S128x576x1 .f32 := broadcastInDim S128x576x1 ![0, 1] bcast_S128x576_S128x576x1_0_1 main_v42
  let main_v44 : FVec F S128x576x9 .f32 := broadcastInDim S128x576x9 ![0, 1, 2] bcast_S128x576x1_S128x576x9_0_1_2 main_v43
  let main_v45 : FVec F S128x576x9 .f32 := subf main_v39 main_v44
  let main_v46 : FVec F S128x576x9 .f32 := Host.exp main_v45
  let main_cst_9 : FVec F S_ .f32 := constant S_ .f32 0x00000000#32
  let main_v47 : FVec F S128x576 .f32 := (fun x v => Host.reduceAdd x v reducesTo_S128x576x9_S128x576_d2 h_S_) main_v46 main_cst_9
  let main_v48 : FVec F S128x576x1 .f32 := broadcastInDim S128x576x1 ![0, 1] bcast_S128x576_S128x576x1_0_1 main_v47
  let main_v49 : FVec F S128x576x9 .f32 := broadcastInDim S128x576x9 ![0, 1, 2] bcast_S128x576x1_S128x576x9_0_1_2 main_v48
  let main_v50 : FVec F S128x576x9 .f32 := Host.divf main_v46 main_v49
  let main_cst_10 : FVec F S_ .f32 := constant S_ .f32 0x00000000#32
  let main_v51 : FVec F S128x9 .f32 := (fun x v => Host.reduceAdd x v reducesTo_S128x576x9_S128x9_d1 h_S_) main_v50 main_cst_10
  let main_v52 : FVec F S128x576x9x1 .f32 := broadcastInDim S128x576x9x1 ![0, 1, 2] bcast_S128x576x9_S128x576x9x1_0_1_2 main_v50
  let main_v53 : FVec F S128x576x1x770 .f32 := broadcastInDim S128x576x1x770 ![0, 1, 3] bcast_S128x576x770_S128x576x1x770_0_1_3 main_v15
  let main_v54 : FVec F S128x576x9x770 .f32 := broadcastInDim S128x576x9x770 ![0, 1, 2, 3] bcast_S128x576x9x1_S128x576x9x770_0_1_2_3 main_v52
  let main_v55 : FVec F S128x576x9x770 .f32 := broadcastInDim S128x576x9x770 ![0, 1, 2, 3] bcast_S128x576x1x770_S128x576x9x770_0_1_2_3 main_v53
  let main_v56 : FVec F S128x576x9x770 .f32 := mulf main_v54 main_v55
  let main_cst_11 : FVec F S_ .f32 := constant S_ .f32 0x00000000#32
  let main_v57 : FVec F S128x9x770 .f32 := (fun x v => Host.reduceAdd x v reducesTo_S128x576x9x770_S128x9x770_d1 h_S_) main_v56 main_cst_11
  let main_v58 : FVec F S128x9x1 .f32 := broadcastInDim S128x9x1 ![0, 1] bcast_S128x9_S128x9x1_0_1 main_v51
  fn_part3 (F := F) main_arg1 main_v15 main_v57 main_v58

def fn_part1 {F : FTy → Type} [FloatOps F] (main_arg1 : FVec F S128x576x9 .f32) (main_v15 : FVec F S128x576x770 .f32) (main_v19 : FVec F S128x3x3x770 .f32) : IVec S_ 1 :=
  let main_v20 : FVec F S128x9x770 .f32 := shapeCast S128x9x770 main_v19 shapeCasts_S128x3x3x770_S128x9x770
  let main_v21 : FVec F S128x576x770 .f32 := mulf main_v15 main_v15
  let main_cst_3 : FVec F S_ .f32 := constant S_ .f32 0x00000000#32
  let main_v22 : FVec F S128x576 .f32 := (fun x v => Host.reduceAdd x v reducesTo_S128x576x770_S128x576_d2 h_S_) main_v21 main_cst_3
  let main_v23 : FVec F S128x576x1 .f32 := broadcastInDim S128x576x1 ![0, 1] bcast_S128x576_S128x576x1_0_1 main_v22
  let main_v24 : FVec F S128x9x770 .f32 := mulf main_v20 main_v20
  let main_cst_4 : FVec F S_ .f32 := constant S_ .f32 0x00000000#32
  let main_v25 : FVec F S128x9 .f32 := (fun x v => Host.reduceAdd x v reducesTo_S128x9x770_S128x9_d2 h_S_) main_v24 main_cst_4
  let main_v26 : FVec F S128x1x9 .f32 := broadcastInDim S128x1x9 ![0, 2] bcast_S128x9_S128x1x9_0_2 main_v25
  let main_v27 : FVec F S128x576x1x770 .f32 := broadcastInDim S128x576x1x770 ![0, 1, 3] bcast_S128x576x770_S128x576x1x770_0_1_3 main_v15
  let main_v28 : FVec F S128x1x9x770 .f32 := broadcastInDim S128x1x9x770 ![0, 2, 3] bcast_S128x9x770_S128x1x9x770_0_2_3 main_v20
  let main_v29 : FVec F S128x576x9x770 .f32 := broadcastInDim S128x576x9x770 ![0, 1, 2, 3] bcast_S128x576x1x770_S128x576x9x770_0_1_2_3 main_v27
  let main_v30 : FVec F S128x576x9x770 .f32 := broadcastInDim S128x576x9x770 ![0, 1, 2, 3] bcast_S128x1x9x770_S128x576x9x770_0_1_2_3 main_v28
  let main_v31 : FVec F S128x576x9x770 .f32 := mulf main_v29 main_v30
  let main_cst_5 : FVec F S_ .f32 := constant S_ .f32 0x00000000#32
  let main_v32 : FVec F S128x576x9 .f32 := (fun x v => Host.reduceAdd x v reducesTo_S128x576x9x770_S128x576x9_d3 h_S_) main_v31 main_cst_5
  let main_cst_6 : FVec F S_ .f32 := constant S_ .f32 0x40000000#32
  let main_v33 : FVec F S128x576x9 .f32 := broadcastInDim S128x576x9 ![] bcast_S_S128x576x9 main_cst_6
  let main_v34 : FVec F S128x576x9 .f32 := mulf main_v33 main_v32
  let main_v35 : FVec F S128x576x9 .f32 := broadcastInDim S128x576x9 ![0, 1, 2] bcast_S128x576x1_S128x576x9_0_1_2 main_v23
  let main_v36 : FVec F S128x576x9 .f32 := subf main_v35 main_v34
  let main_v37 : FVec F S128x576x9 .f32 := broadcastInDim S128x576x9 ![0, 1, 2] bcast_S128x1x9_S128x576x9_0_1_2 main_v26
  let main_v38 : FVec F S128x576x9 .f32 := addf main_v36 main_v37
  let main_v39 : FVec F S128x576x9 .f32 := Host.negf main_v38
  fn_part2 (F := F) main_arg1 main_v15 main_v39

def fn {F : FTy → Type} [FloatOps F] (main_arg0 : FVec F S128x576x768 .f32) (main_arg1 : FVec F S128x576x9 .f32) : IVec S_ 1 :=
  let main_v0 : FVec F S24 .f32 := sitofp .f32 (iotaInDim S24 32 0)
  let main_v1 : FVec F S1x24 .f32 := shapeCast S1x24 main_v0 shapeCasts_S24_S1x24
  let main_v2 : FVec F S24x24 .f32 := broadcastInDim S24x24 ![0, 1] bcast_S1x24_S24x24_0_1 main_v1
  let main_v3 : FVec F S576 .f32 := shapeCast S576 main_v2 shapeCasts_S24x24_S576
  let main_cst : FVec F S_ .f32 := constant S_ .f32 0x40400000#32
  let main_v4 : FVec F S576 .f32 := broadcastInDim S576 ![] bcast_S_S576 main_cst
  let main_v5 : FVec F S576 .f32 := mulf main_v3 main_v4
  let main_v6 : FVec F S24 .f32 := sitofp .f32 (iotaInDim S24 32 0)
  let main_v7 : FVec F S24x24 .f32 := broadcastInDim S24x24 ![0] bcast_S24_S24x24_0 main_v6
  let main_v8 : FVec F S576 .f32 := shapeCast S576 main_v7 shapeCasts_S24x24_S576
  let main_cst_0 : FVec F S_ .f32 := constant S_ .f32 0x40400000#32
  let main_v9 : FVec F S576 .f32 := broadcastInDim S576 ![] bcast_S_S576 main_cst_0
  let main_v10 : FVec F S576 .f32 := mulf main_v8 main_v9
  let main_v11 : FVec F S576x1 .f32 := broadcastInDim S576x1 ![0] bcast_S576_S576x1_0 main_v5
  let main_v12 : FVec F S576x1 .f32 := broadcastInDim S576x1 ![0] bcast_S576_S576x1_0 main_v10
  let main_v13 : FVec F S576x2 .f32 := (fun a b => concatenate S576x2 1 [⟨S576x1, a⟩, ⟨S576x1, b⟩] concatenates_S576x1_S576x1_S576x2_d1) main_v11 main_v12
  let main_v14 : FVec F S128x576x2 .f32 := broadcastInDim S128x576x2 ![1, 2] bcast_S576x2_S128x576x2_1_2 main_v13
  let main_v15 : FVec F S128x576x770 .f32 := (fun a b => concatenate S128x576x770 2 [⟨S128x576x2, a⟩, ⟨S128x576x768, b⟩] concatenates_S128x576x2_S128x576x768_S128x576x770_d2) main_v14 main_arg0
  let main_v16 : FVec F S128x3x8x3x8x770 .f32 := shapeCast S128x3x8x3x8x770 main_v15 shapeCasts_S128x576x770_S128x3x8x3x8x770
  let main_cst_1 : FVec F S_ .f32 := constant S_ .f32 0x00000000#32
  let main_v17 : FVec F S128x3x3x770 .f32 := (fun x v => Host.reduceAdd x v reducesTo_S128x3x8x3x8x770_S128x3x3x770_d2_4 h_S_) main_v16 main_cst_1
  let main_cst_2 : FVec F S_ .f32 := constant S_ .f32 0x42800000#32
  let main_v18 : FVec F S128x3x3x770 .f32 := broadcastInDim S128x3x3x770 ![] bcast_S_S128x3x3x770 main_cst_2
  let main_v19 : FVec F S128x3x3x770 .f32 := Host.divf main_v17 main_v18
  fn_part1 (F := F) main_arg1 main_v15 main_v19
-- ==== Pre_finite.lean ====
abbrev S128x576x768 : Shape := ⟨3, ![128, 576, 768]⟩
abbrev S_ : Shape := ⟨0, ![]⟩

class Facts : Prop where
  bcast_S_S128x576x768 : S_.BroadcastsInDim S128x576x768 (![] : Fin 0 → Fin S128x576x768.rank)

variable [Facts]

def fn {F : FTy → Type} [FloatOps F] (main_arg0 : FVec F S128x576x768 .f32) : IVec S128x576x768 1 :=
  let main_v0 : FVec F S128x576x768 .f32 := Host.absf main_arg0
  let main_cst : FVec F S_ .f32 := constant S_ .f32 0x7F800000#32
  let main_v1 : FVec F S128x576x768 .f32 := broadcastInDim S128x576x768 ![] bcast_S_S128x576x768 main_cst
  let main_v2 : IVec S128x576x768 1 := cmpf .olt main_v0 main_v1
  main_v2
-- ==== Pre_spread.lean ====
abbrev S128x576x768 : Shape := ⟨3, ![128, 576, 768]⟩
abbrev S_ : Shape := ⟨0, ![]⟩

class Facts : Prop where
  bcast_S_S128x576x768 : S_.BroadcastsInDim S128x576x768 (![] : Fin 0 → Fin S128x576x768.rank)

variable [Facts]

def fn_where {F : FTy → Type} [FloatOps F] (arg0 : IVec S128x576x768 1) (arg1 : IVec S128x576x768 32) (arg2 : IVec S128x576x768 32) : IVec S128x576x768 32 :=
  let v0 : IVec S128x576x768 32 := select arg0 arg1 arg2
  v0

def fn_floor_divide {F : FTy → Type} [FloatOps F] (arg0 : IVec S128x576x768 32) (arg1 : IVec S_ 32) : IVec S128x576x768 32 :=
  let v0 : IVec S_ 32 := id arg1
  let v1 : IVec S128x576x768 32 := broadcastInDim S128x576x768 ![] bcast_S_S128x576x768 v0
  let v2 : IVec S128x576x768 32 := Host.divsi arg0 v1
  let v3 : IVec S128x576x768 32 := signi arg0
  let v4 : IVec S_ 32 := signi v0
  let v5 : IVec S128x576x768 32 := broadcastInDim S128x576x768 ![] bcast_S_S128x576x768 v4
  let v6 : IVec S128x576x768 1 := cmpi .ne v3 v5
  let v7 : IVec S128x576x768 32 := broadcastInDim S128x576x768 ![] bcast_S_S128x576x768 v0
  let v8 : IVec S128x576x768 32 := Host.remsi arg0 v7
  let c : IVec S_ 32 := constantI S_ 32 0#32
  let v9 : IVec S128x576x768 32 := broadcastInDim S128x576x768 ![] bcast_S_S128x576x768 c
  let v10 : IVec S128x576x768 1 := cmpi .ne v8 v9
  let v11 : IVec S128x576x768 1 := andi v6 v10
  let c_0 : IVec S_ 32 := constantI S_ 32 1#32
  let v12 : IVec S128x576x768 32 := broadcastInDim S128x576x768 ![] bcast_S_S128x576x768 c_0
  let v13 : IVec S128x576x768 32 := subi v2 v12
  let v14 : IVec S128x576x768 32 := fn_where (F := F) v11 v13 v2
  v14

def fn_where_0 {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S128x576x768 32) (arg1 : IVec S_ 32) : IVec S128x576x768 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where_0 (F := F) v1 c_0 v0
  let v3 : IVec S128x576x768 32 := broadcastInDim S128x576x768 ![] bcast_S_S128x576x768 v2
  let v4 : IVec S128x576x768 32 := Host.remsi arg0 v3
  let c_1 : IVec S_ 32 := constantI S_ 32 0#32
  let v5 : IVec S128x576x768 32 := broadcastInDim S128x576x768 ![] bcast_S_S128x576x768 c_1
  let v6 : IVec S128x576x768 1 := cmpi .ne v4 v5
  let c_2 : IVec S_ 32 := constantI S_ 32 0#32
  let v7 : IVec S128x576x768 32 := broadcastInDim S128x576x768 ![] bcast_S_S128x576x768 c_2
  let v8 : IVec S128x576x768 1 := cmpi .slt v4 v7
  let c_3 : IVec S_ 32 := constantI S_ 32 0#32
  let v9 : IVec S_ 1 := cmpi .slt v2 c_3
  let v10 : IVec S128x576x768 1 := broadcastInDim S128x576x768 ![] bcast_S_S128x576x768 v9
  let v11 : IVec S128x576x768 1 := cmpi .ne v8 v10
  let v12 : IVec S128x576x768 1 := andi v11 v6
  let v13 : IVec S128x576x768 32 := broadcastInDim S128x576x768 ![] bcast_S_S128x576x768 v2
  let v14 : IVec S128x576x768 32 := addi v4 v13
  let v15 : IVec S128x576x768 32 := select v12 v14 v4
  v15

def fn_where_1 {F : FTy → Type} [FloatOps F] (arg0 : IVec S128x576x768 1) (arg1 : FVec F S_ .f32) (arg2 : FVec F S_ .f32) : FVec F S128x576x768 .f32 :=
  let v0 : FVec F S128x576x768 .f32 := broadcastInDim S128x576x768 ![] bcast_S_S128x576x768 arg1
  let v1 : FVec F S128x576x768 .f32 := broadcastInDim S128x576x768 ![] bcast_S_S128x576x768 arg2
  let v2 : FVec F S128x576x768 .f32 := select arg0 v0 v1
  v2

def fn_where_2 {F : FTy → Type} [FloatOps F] (arg0 : IVec S128x576x768 1) (arg1 : FVec F S128x576x768 .f32) (arg2 : FVec F S128x576x768 .f32) : FVec F S128x576x768 .f32 :=
  let v0 : FVec F S128x576x768 .f32 := id arg2
  let v1 : FVec F S128x576x768 .f32 := select arg0 arg1 v0
  v1

def fn_part1 {F : FTy → Type} [FloatOps F] (main_arg0 : FVec F S128x576x768 .f32) (main_v1 : IVec S128x576x768 32) (main_v8 : IVec S128x576x768 32) (main_v13 : FVec F S128x576x768 .f32) (main_v14 : IVec S128x576x768 32) : IVec S128x576x768 1 :=
  let main_v15 : IVec S128x576x768 1 := cmpi .eq main_v1 main_v14
  let main_v16 : FVec F S128x576x768 .f32 := sitofp .f32 main_v8
  let main_cst_7 : FVec F S_ .f32 := constant S_ .f32 0x43000000#32
  let main_v17 : FVec F S128x576x768 .f32 := broadcastInDim S128x576x768 ![] bcast_S_S128x576x768 main_cst_7
  let main_v18 : FVec F S128x576x768 .f32 := mulf main_v17 main_v16
  let main_v19 : FVec F S128x576x768 .f32 := fn_where_2 (F := F) main_v15 main_v18 main_v13
  let main_v20 : IVec S128x576x768 1 := cmpf .oeq main_arg0 main_v19
  main_v20

def fn {F : FTy → Type} [FloatOps F] (main_arg0 : FVec F S128x576x768 .f32) : IVec S128x576x768 1 :=
  let main_v0 : IVec S128x576x768 32 := iotaInDim S128x576x768 32 1
  let main_v1 : IVec S128x576x768 32 := iotaInDim S128x576x768 32 2
  let main_c : IVec S_ 32 := constantI S_ 32 24#32
  let main_v2 : IVec S128x576x768 32 := fn_floor_divide (F := F) main_v0 main_c
  let main_c_0 : IVec S_ 32 := constantI S_ 32 8#32
  let main_v3 : IVec S128x576x768 32 := fn_floor_divide (F := F) main_v2 main_c_0
  let main_c_1 : IVec S_ 32 := constantI S_ 32 3#32
  let main_v4 : IVec S128x576x768 32 := broadcastInDim S128x576x768 ![] bcast_S_S128x576x768 main_c_1
  let main_v5 : IVec S128x576x768 32 := muli main_v3 main_v4
  let main_c_2 : IVec S_ 32 := constantI S_ 32 24#32
  let main_v6 : IVec S128x576x768 32 := fn_remainder (F := F) main_v0 main_c_2
  let main_c_3 : IVec S_ 32 := constantI S_ 32 8#32
  let main_v7 : IVec S128x576x768 32 := fn_floor_divide (F := F) main_v6 main_c_3
  let main_v8 : IVec S128x576x768 32 := addi main_v5 main_v7
  let main_v9 : IVec S128x576x768 1 := cmpi .eq main_v1 main_v0
  let main_c_4 : IVec S_ 32 := constantI S_ 32 0#32
  let main_v10 : IVec S128x576x768 32 := broadcastInDim S128x576x768 ![] bcast_S_S128x576x768 main_c_4
  let main_v11 : IVec S128x576x768 1 := cmpi .ne main_v0 main_v10
  let main_v12 : IVec S128x576x768 1 := andi main_v9 main_v11
  let main_cst : FVec F S_ .f32 := constant S_ .f32 0x3F800000#32
  let main_cst_5 : FVec F S_ .f32 := constant S_ .f32 0x00000000#32
  let main_v13 : FVec F S128x576x768 .f32 := fn_where_1 (F := F) main_v12 main_cst main_cst_5
  let main_c_6 : IVec S_ 32 := constantI S_ 32 576#32
  let main_v14 : IVec S128x576x768 32 := broadcastInDim S128x576x768 ![] bcast_S_S128x576x768 main_c_6
  fn_part1 (F := F) main_arg0 main_v1 main_v8 main_v13 main_v14
-- ==== Kernel.lean ====
abbrev S128x576x768 : Shape := ⟨3, ![128, 576, 768]⟩
abbrev S128x576x9 : Shape := ⟨3, ![128, 576, 9]⟩
abbrev S8x576x768 : Shape := ⟨3, ![8, 576, 768]⟩
abbrev S8x576x9 : Shape := ⟨3, ![8, 576, 9]⟩
abbrev S8x576x576 : Shape := ⟨3, ![8, 576, 576]⟩
abbrev S576x2 : Shape := ⟨2, ![576, 2]⟩
abbrev S576x576 : Shape := ⟨2, ![576, 576]⟩
abbrev S1x576x768 : Shape := ⟨3, ![1, 576, 768]⟩
abbrev S576x768 : Shape := ⟨2, ![576, 768]⟩
abbrev S1x576x576 : Shape := ⟨3, ![1, 576, 576]⟩
abbrev S9x576 : Shape := ⟨2, ![9, 576]⟩
abbrev S9x1 : Shape := ⟨2, ![9, 1]⟩
abbrev S9 : Shape := ⟨1, ![9]⟩
abbrev S576 : Shape := ⟨1, ![576]⟩
abbrev S1x576 : Shape := ⟨2, ![1, 576]⟩
abbrev S576x9 : Shape := ⟨2, ![576, 9]⟩
abbrev S1x576x9 : Shape := ⟨3, ![1, 576, 9]⟩

abbrev nBuf : Space → Nat
  | .hbm => 2
  | .vmem => 5
  | .smem => 0
  | _ => 0

abbrev bufTy : (tb : Table) → Fin (tcTables nBuf tb) → BufTy
  | .hbm, ⟨0, _⟩ => ⟨S128x576x768, .f32⟩
  | .hbm, ⟨1, _⟩ => ⟨S128x576x9, .f32⟩
  | .local _ .vmem, ⟨0, _⟩ => ⟨S8x576x768, .f32⟩
  | .local _ .vmem, ⟨1, _⟩ => ⟨S8x576x768, .f32⟩
  | .local _ .vmem, ⟨2, _⟩ => ⟨S8x576x9, .f32⟩
  | .local _ .vmem, ⟨3, _⟩ => ⟨S8x576x9, .f32⟩
  | .local _ .vmem, ⟨4, _⟩ => ⟨S8x576x576, .f32⟩
  | _, _ => ⟨S128x576x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x576x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x576x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S128x576x768 : Shape := ⟨3, ![128, 576, 768]⟩
abbrev S24 : Shape := ⟨1, ![24]⟩
abbrev S1x24 : Shape := ⟨2, ![1, 24]⟩
abbrev S24x24 : Shape := ⟨2, ![24, 24]⟩
abbrev S576 : Shape := ⟨1, ![576]⟩
abbrev S_ : Shape := ⟨0, ![]⟩
abbrev S576x1 : Shape := ⟨2, ![576, 1]⟩
abbrev S576x2 : Shape := ⟨2, ![576, 2]⟩
abbrev S128x576x2 : Shape := ⟨3, ![128, 576, 2]⟩
abbrev S128x576x770 : Shape := ⟨3, ![128, 576, 770]⟩
abbrev S128x3x8x3x8x770 : Shape := ⟨6, ![128, 3, 8, 3, 8, 770]⟩
abbrev S128x3x3x770 : Shape := ⟨4, ![128, 3, 3, 770]⟩
abbrev S128x9x770 : Shape := ⟨3, ![128, 9, 770]⟩
abbrev S128x576 : Shape := ⟨2, ![128, 576]⟩
abbrev S128x576x1 : Shape := ⟨3, ![128, 576, 1]⟩
abbrev S128x9 : Shape := ⟨2, ![128, 9]⟩
abbrev S128x1x9 : Shape := ⟨3, ![128, 1, 9]⟩
abbrev S128x576x9 : Shape := ⟨3, ![128, 576, 9]⟩
abbrev S128x9x1 : Shape := ⟨3, ![128, 9, 1]⟩

abbrev nBuf : Space → Nat
  | .hbm => 105
  | .vmem => 0
  | .smem => 0
  | _ => 0

abbrev bufTy : (tb : Table) → Fin (tcTables nBuf tb) → BufTy
  | .hbm, ⟨0, _⟩ => ⟨S128x576x768, .f32⟩
  | .hbm, ⟨1, _⟩ => ⟨S24, .f32⟩
  | .hbm, ⟨2, _⟩ => ⟨S1x24, .f32⟩
  | .hbm, ⟨3, _⟩ => ⟨S24x24, .f32⟩
  | .hbm, ⟨4, _⟩ => ⟨S576, .f32⟩
  | .hbm, ⟨5, _⟩ => ⟨S_, .f32⟩
  | .hbm, ⟨6, _⟩ => ⟨S576, .f32⟩
  | .hbm, ⟨7, _⟩ => ⟨S576, .f32⟩
  | .hbm, ⟨8, _⟩ => ⟨S24, .f32⟩
  | .hbm, ⟨9, _⟩ => ⟨S24x24, .f32⟩
  | .hbm, ⟨10, _⟩ => ⟨S576, .f32⟩
  | .hbm, ⟨11, _⟩ => ⟨S_, .f32⟩
  | .hbm, ⟨12, _⟩ => ⟨S576, .f32⟩
  | .hbm, ⟨13, _⟩ => ⟨S576, .f32⟩
  | .hbm, ⟨14, _⟩ => ⟨S576x1, .f32⟩
  | .hbm, ⟨15, _⟩ => ⟨S576x1, .f32⟩
  | .hbm, ⟨16, _⟩ => ⟨S576x2, .f32⟩
  | .hbm, ⟨17, _⟩ => ⟨S128x576x2, .f32⟩
  | .hbm, ⟨18, _⟩ => ⟨S128x576x770, .f32⟩
  | .hbm, ⟨19, _⟩ => ⟨S128x3x8x3x8x770, .f32⟩
  | .hbm, ⟨20, _⟩ => ⟨S_, .f32⟩
  | .hbm, ⟨21, _⟩ => ⟨S128x3x3x770, .f32⟩
  | .hbm, ⟨22, _⟩ => ⟨S_, .f32⟩
  | .hbm, ⟨23, _⟩ => ⟨S128x3x3x770, .f32⟩
  | .hbm, ⟨24, _⟩ => ⟨S128x3x3x770, .f32⟩
  | .hbm, ⟨25, _⟩ => ⟨S128x9x770, .f32⟩
  | .hbm, ⟨26, _⟩ => ⟨S_, .i32⟩
  | .hbm, ⟨27, _⟩ => ⟨S128x576x770, .f32⟩
  | .hbm, ⟨28, _⟩ => ⟨S_, .i32⟩
  | .hbm, ⟨29, _⟩ => ⟨S128x9x770, .f32⟩
  | .hbm, ⟨30, _⟩ => ⟨S_, .i32⟩
  | .hbm, ⟨31, _⟩ => ⟨S_, .i1⟩
  | .hbm, ⟨32, _⟩ => ⟨S128x576x770, .f32⟩
  | .hbm, ⟨33, _⟩ => ⟨S_, .f32⟩
  | .hbm, ⟨34, _⟩ => ⟨S128x576, .f32⟩
  | .hbm, ⟨35, _⟩ => ⟨S128x576x1, .f32⟩
  | .hbm, ⟨36, _⟩ => ⟨S128x9x770, .f32⟩
  | .hbm, ⟨37, _⟩ => ⟨S_, .f32⟩
  | .hbm, ⟨38, _⟩ => ⟨S128x9, .f32⟩
  | .hbm, ⟨39, _⟩ => ⟨S128x1x9, .f32⟩
  | .hbm, ⟨40, _⟩ => ⟨S128x576x9, .f32⟩
  | .hbm, ⟨41, _⟩ => ⟨S_, .f32⟩
  | .hbm, ⟨42, _⟩ => ⟨S128x576x9, .f32⟩
  | .hbm, ⟨43, _⟩ => ⟨S128x576x9, .f32⟩
  | .hbm, ⟨44, _⟩ => ⟨S128x576x9, .f32⟩
  | .hbm, ⟨45, _⟩ => ⟨S128x576x9, .f32⟩
  | .hbm, ⟨46, _⟩ => ⟨S128x576x9, .f32⟩
  | .hbm, ⟨47, _⟩ => ⟨S128x576x9, .f32⟩
  | .hbm, ⟨48, _⟩ => ⟨S128x576x9, .f32⟩
  | .hbm, ⟨49, _⟩ => ⟨S_, .f32⟩
  | .hbm, ⟨50, _⟩ => ⟨S128x576, .f32⟩
  | .hbm, ⟨51, _⟩ => ⟨S_, .f32⟩
  | .hbm, ⟨52, _⟩ => ⟨S128x576, .f32⟩
  | .hbm, ⟨53, _⟩ => ⟨S128x576, .f32⟩
  | .hbm, ⟨54, _⟩ => ⟨S128x576x1, .f32⟩
  | .hbm, ⟨55, _⟩ => ⟨S128x576x9, .f32⟩
  | .hbm, ⟨56, _⟩ => ⟨S128x576x9, .f32⟩
  | .hbm, ⟨57, _⟩ => ⟨S128x576x9, .f32⟩
  | .hbm, ⟨58, _⟩ => ⟨S_, .f32⟩
  | .hbm, ⟨59, _⟩ => ⟨S128x576, .f32⟩
  | .hbm, ⟨60, _⟩ => ⟨S128x576x1, .f32⟩
  | .hbm, ⟨61, _⟩ => ⟨S128x576x9, .f32⟩
  | .hbm, ⟨62, _⟩ => ⟨S128x576x9, .f32⟩
  | .hbm, ⟨63, _⟩ => ⟨S_, .f32⟩
  | .hbm, ⟨64, _⟩ => ⟨S128x9, .f32⟩
  | .hbm, ⟨65, _⟩ => ⟨S128x9x770, .f32⟩
  | .hbm, ⟨66, _⟩ => ⟨S128x9x1, .f32⟩
  | .hbm, ⟨67, _⟩ => ⟨S_, .f32⟩
  | .hbm, ⟨68, _⟩ => ⟨S128x9x1, .f32⟩
  | .hbm, ⟨69, _⟩ => ⟨S128x9x1, .f32⟩
  | .hbm, ⟨70, _⟩ => ⟨S128x9x770, .f32⟩
  | .hbm, ⟨71, _⟩ => ⟨S128x9x770, .f32⟩
  | .hbm, ⟨72, _⟩ => ⟨S_, .i32⟩
  | .hbm, ⟨73, _⟩ => ⟨S_, .i32⟩
  | .hbm, ⟨74, _⟩ => ⟨S128x576x770, .f32⟩
  | .hbm, ⟨75, _⟩ => ⟨S_, .f32⟩
  | .hbm, ⟨76, _⟩ => ⟨S128x576, .f32⟩
  | .hbm, ⟨77, _⟩ => ⟨S128x576x1, .f32⟩
  | .hbm, ⟨78, _⟩ => ⟨S128x9x770, .f32⟩
  | .hbm, ⟨79, _⟩ => ⟨S_, .f32⟩
  | .hbm, ⟨80, _⟩ => ⟨S128x9, .f32⟩
  | .hbm, ⟨81, _⟩ => ⟨S128x1x9, .f32⟩
  | .hbm, ⟨82, _⟩ => ⟨S128x576x9, .f32⟩
  | .hbm, ⟨83, _⟩ => ⟨S_, .f32⟩
  | .hbm, ⟨84, _⟩ => ⟨S128x576x9, .f32⟩
  | .hbm, ⟨85, _⟩ => ⟨S128x576x9, .f32⟩
  | .hbm, ⟨86, _⟩ => ⟨S128x576x9, .f32⟩
  | .hbm, ⟨87, _⟩ => ⟨S128x576x9, .f32⟩
  | .hbm, ⟨88, _⟩ => ⟨S128x576x9, .f32⟩
  | .hbm, ⟨89, _⟩ => ⟨S128x576x9, .f32⟩
  | .hbm, ⟨90, _⟩ => ⟨S128x576x9, .f32⟩
  | .hbm, ⟨91, _⟩ => ⟨S_, .f32⟩
  | .hbm, ⟨92, _⟩ => ⟨S128x576, .f32⟩
  | .hbm, ⟨93, _⟩ => ⟨S_, .f32⟩
  | .hbm, ⟨94, _⟩ => ⟨S128x576, .f32⟩
  | .hbm, ⟨95, _⟩ => ⟨S128x576, .f32⟩
  | .hbm, ⟨96, _⟩ => ⟨S128x576x1, .f32⟩
  | .hbm, ⟨97, _⟩ => ⟨S128x576x9, .f32⟩
  | .hbm, ⟨98, _⟩ => ⟨S128x576x9, .f32⟩
  | .hbm, ⟨99, _⟩ => ⟨S128x576x9, .f32⟩
  | .hbm, ⟨100, _⟩ => ⟨S_, .f32⟩
  | .hbm, ⟨101, _⟩ => ⟨S128x576, .f32⟩
  | .hbm, ⟨102, _⟩ => ⟨S128x576x1, .f32⟩
  | .hbm, ⟨103, _⟩ => ⟨S128x576x9, .f32⟩
  | .hbm, ⟨104, _⟩ => ⟨S128x576x9, .f32⟩
  | _, _ => ⟨S128x576x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst_1 : Ref sig .tc := ⟨.hbm, 20, rfl⟩
abbrev main_v17 : Ref sig .tc := ⟨.hbm, 21, rfl⟩
abbrev main_cst_2 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c : Ref sig .tc := ⟨.hbm, 26, rfl⟩
abbrev main_v21_0 : Ref sig .tc := ⟨.hbm, 27, rfl⟩
abbrev main_v21_1 : Ref sig .tc := ⟨.hbm, 28, rfl⟩
abbrev main_v21_2 : Ref sig .tc := ⟨.hbm, 29, rfl⟩
abbrev main_while0c_c_11 : Ref sig .tc := ⟨.hbm, 30, rfl⟩
abbrev main_while0c_v47 : Ref sig .tc := ⟨.hbm, 31, rfl⟩
abbrev main_while0b_v47 : Ref sig .tc := ⟨.hbm, 32, rfl⟩
abbrev main_while0b_cst_11 : Ref sig .tc := ⟨.hbm, 33, rfl⟩
abbrev main_while0b_v48 : Ref sig .tc := ⟨.hbm, 34, rfl⟩
abbrev main_while0b_v49 : Ref sig .tc := ⟨.hbm, 35, rfl⟩
abbrev main_while0b_v50 : Ref sig .tc := ⟨.hbm, 36, rfl⟩
abbrev main_while0b_cst_12 : Ref sig .tc := ⟨.hbm, 37, rfl⟩
abbrev main_while0b_v51 : Ref sig .tc := ⟨.hbm, 38, rfl⟩
abbrev main_while0b_v52 : Ref sig .tc := ⟨.hbm, 39, rfl⟩
abbrev main_while0b_v53 : Ref sig .tc := ⟨.hbm, 40, rfl⟩
abbrev main_while0b_cst_13 : Ref sig .tc := ⟨.hbm, 41, rfl⟩
abbrev main_while0b_v54 : Ref sig .tc := ⟨.hbm, 42, rfl⟩
abbrev main_while0b_v55 : Ref sig .tc := ⟨.hbm, 43, rfl⟩
abbrev main_while0b_v56 : Ref sig .tc := ⟨.hbm, 44, rfl⟩
abbrev main_while0b_v57 : Ref sig .tc := ⟨.hbm, 45, rfl⟩
abbrev main_while0b_v58 : Ref sig .tc := ⟨.hbm, 46, rfl⟩
abbrev main_while0b_v59 : Ref sig .tc := ⟨.hbm, 47, rfl⟩
abbrev main_while0b_v60 : Ref sig .tc := ⟨.hbm, 48, rfl⟩
abbrev main_while0b_cst_14 : Ref sig .tc := ⟨.hbm, 49, rfl⟩
abbrev main_while0b_v61 : Ref sig .tc := ⟨.hbm, 50, rfl⟩
abbrev main_while0b_cst_15 : Ref sig .tc := ⟨.hbm, 51, rfl⟩
abbrev main_while0b_v62 : Ref sig .tc := ⟨.hbm, 52, rfl⟩
abbrev main_while0b_v63 : Ref sig .tc := ⟨.hbm, 53, rfl⟩
abbrev main_while0b_v64 : Ref sig .tc := ⟨.hbm, 54, rfl⟩
abbrev main_while0b_v65 : Ref sig .tc := ⟨.hbm, 55, rfl⟩
abbrev main_while0b_v66 : Ref sig .tc := ⟨.hbm, 56, rfl⟩
abbrev main_while0b_v67 : Ref sig .tc := ⟨.hbm, 57, rfl⟩
abbrev main_while0b_cst_16 : Ref sig .tc := ⟨.hbm, 58, rfl⟩
abbrev main_while0b_v68 : Ref sig .tc := ⟨.hbm, 59, rfl⟩
abbrev main_while0b_v69 : Ref sig .tc := ⟨.hbm, 60, rfl⟩
abbrev main_while0b_v70 : Ref sig .tc := ⟨.hbm, 61, rfl⟩
abbrev main_while0b_v71 : Ref sig .tc := ⟨.hbm, 62, rfl⟩
abbrev main_while0b_cst_17 : Ref sig .tc := ⟨.hbm, 63, rfl⟩
abbrev main_while0b_v72 : Ref sig .tc := ⟨.hbm, 64, rfl⟩
abbrev main_while0b_v73 : Ref sig .tc := ⟨.hbm, 65, rfl⟩
abbrev main_while0b_v74 : Ref sig .tc := ⟨.hbm, 66, rfl⟩
abbrev main_while0b_cst_18 : Ref sig .tc := ⟨.hbm, 67, rfl⟩
abbrev main_while0b_v75 : Ref sig .tc := ⟨.hbm, 68, rfl⟩
abbrev main_while0b_v76 : Ref sig .tc := ⟨.hbm, 69, rfl⟩
abbrev main_while0b_v77 : Ref sig .tc := ⟨.hbm, 70, rfl⟩
abbrev main_while0b_v78 : Ref sig .tc := ⟨.hbm, 71, rfl⟩
abbrev main_while0b_c_19 : Ref sig .tc := ⟨.hbm, 72, rfl⟩
abbrev main_while0b_v79 : Ref sig .tc := ⟨.hbm, 73, rfl⟩
abbrev main_v22 : Ref sig .tc := ⟨.hbm, 74, rfl⟩
abbrev main_cst_3 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_cst_4 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_cst_5 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_cst_6 : Ref sig .tc := ⟨.hbm, 91, rfl⟩
abbrev main_v36 : Ref sig .tc := ⟨.hbm, 92, rfl⟩
abbrev main_cst_7 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_cst_8 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩

abbrev nD : Nat := 1
abbrev τ : Topo := Topo.v7x

variable {F : FTy → Type} [FloatOps F]

abbrev main_while0_count : Scf.Loop 32 := ⟨0#32, 9#32, 1#32⟩
-- ==== Proof.KBlock.lean ====
module

public import proofs.«01_k».proof.Proof.Gen.KernelIdeal.Value
public import Idealize.ShloMosaic.Lib.Pointwise

@[expose] public section

set_option maxRecDepth 16384

noncomputable section

namespace Cert.KernelIdeal.Block

open Cert.KernelIdeal Cert.KernelIdeal.Gen Idealize.ShloMosaic Idealize.ShloMosaic.TcCoe
open Idealize.ShloMosaic.Tactic

variable {F : FTy → Type} [FloatOps F]

/-- The block indicator the loop starts from: one where the pixel lies in the cluster's block. -/
def q0 : FVec F S9x576 .f32 :=
  k0_pay20 (iota .tc S9x576 32 [0] iota_S9x576_d0_w32) (iota .tc S9x576 32 [1] iota_S9x576_d1_w32)
    (k0_pay19 (iota .tc S9x576 32 [1] iota_S9x576_d1_w32) 24#32 k0_pay17 k0_pay18 0#32) 24#32 0#1

/-- One iteration on one image: the assignments and the reciprocal weights, from the ones before and the Gram slab. -/
def next (G : Vec F S1x576x576 .f32) (s : FVec F S9x576 .f32 × FVec F S9x1 .f32) :
    FVec F S9x576 .f32 × FVec F S9x1 .f32 :=
  (k0_pay32 s.1 s.2 (k0_pay22 s.1 G), k0_pay33 s.1 s.2 (k0_pay22 s.1 G))

/-- The state after `n` iterations. -/
def state (G : Vec F S1x576x576 .f32) : ℕ → FVec F S9x576 .f32 × FVec F S9x1 .f32
  | 0 => (q0, k0_pay21)
  | n + 1 => next G (state G n)

/-- The Gram matrix of the scaled coordinates. -/
def cgram : FVec F S576x576 .f32 := k0_pay4 (iota .tc S576x2 32 [1] iota_S576x2_d1_w32) k0_pay2 k0_pay3

/-- The Gram slab of one image, from its embedding. -/
def slab (X : Vec F S1x576x768 .f32) : FVec F S1x576x576 .f32 := k0_pay10 cgram X X

/-- Image `g`'s slice of the embedding block lies inside the block. -/
theorem inb_x (g : Fin 8) : ∀ a, (![g.val, 0, 0] : Fin 3 → ℕ) a + S1x576x768.size a ≤ S8x576x768.size a := by
  revert g; decide

/-- Image `g`'s slab lies inside the scratch. -/
theorem inb_g (g : Fin 8) : ∀ a, (![g.val, 0, 0] : Fin 3 → ℕ) a + S1x576x576.size a ≤ S8x576x576.size a := by
  revert g; decide

/-- Image `g`'s result lies inside the output block. -/
theorem inb_o (g : Fin 8) : ∀ a, (![g.val, 0, 0] : Fin 3 → ℕ) a + S1x576x9.size a ≤ S8x576x9.size a := by
  revert g; decide

/-- Image `g`'s slice of the embedding block. -/
abbrev rx (g : Fin 8) : Rect S8x576x768 := Rect.unit (s := S8x576x768) ![g.val, 0, 0] S1x576x768.size (inb_x g)
/-- Image `g`'s slab of the scratch. -/
abbrev rg (g : Fin 8) : Rect S8x576x576 := Rect.unit (s := S8x576x576) ![g.val, 0, 0] S1x576x576.size (inb_g g)
/-- Image `g`'s slice of the output block. -/
abbrev ro (g : Fin 8) : Rect S8x576x9 := Rect.unit (s := S8x576x9) ![g.val, 0, 0] S1x576x9.size (inb_o g)

/-- The eight Gram slabs the body stores into its scratch, last first. -/
def slabs (arg1 : Memref sig .tc .vmem S8x576x768 .f32) (harg1 : arg1.IsWhole) (x0 : Vec F S8x576x768 .f32) :
    List (View.Piece (Elt F) S8x576x576 .f32) :=
  ([7, 6, 5, 4, 3, 2, 1, 0] : List (Fin 8)).map fun g =>
    ⟨rg g, slab (View.readAt (Elt F) arg1.view (rx g).toLoadRect (harg1.unread x0))⟩

/-- What the body stores for one image, from its Gram slab: the assignments after ten iterations, pixels first. -/
def store (G : Vec F S1x576x576 .f32) : FVec F S1x576x9 .f32 := k0_pay307 (state G 10).1

/-- The pieces the body's run leaves in the output's staging buffer: for each of the eight images of the block,
    the assignments after ten iterations on the slab loaded from the scratch. -/
theorem pieces_eq (c : Dev nD) (i : grid0.Coords) (arg1 : Memref sig .tc .vmem S8x576x768 .f32) (harg1 : arg1.IsWhole) (arg2 : Memref sig .tc .vmem S8x576x9 .f32) (harg2 : arg2.IsWhole) (arg3 : Memref sig .tc .vmem S8x576x576 .f32) (harg3 : arg3.IsWhole)
    (x0 : Vec F S8x576x768 .f32) :
    (kernelRun0_A c i arg1 harg1 arg2 harg2 arg3 harg3 x0).1 =
      ([7, 6, 5, 4, 3, 2, 1, 0] : List (Fin 8)).map fun g =>
        (⟨ro g, store (arg3.view.readCov (slabs arg1 harg1 x0) (rg g).toLoadRect)⟩ : View.Piece (Elt F) S8x576x9 .f32) := by
  sl_kernel_rfl

end Cert.KernelIdeal.Block

end
-- ==== Proof.Spec.lean ====
module

public import Idealize.ShloMosaic.Lib.Pointwise
public import Mathlib.Analysis.SpecialFunctions.Exp

@[expose] public section

noncomputable section

/-! Soft k-means over the reals: the step on centroids, the same step on a Gram matrix, and their agreement. No
program is named here. -/

namespace Cert.Soft

open Finset

section Maths

variable {P K D : Type} [Fintype P] [Fintype K] [Fintype D]

/-- The softmax over the clusters of the scores `s k p`. -/
def soft (s : K → P → ℝ) (k : K) (p : P) : ℝ := Real.exp (s k p) / ∑ k', Real.exp (s k' p)

/-- Minus the squared distance of pixel `p` to centroid `k`. -/
def negDist (X : P → D → ℝ) (c : K → D → ℝ) (k : K) (p : P) : ℝ :=
  -((∑ d, X p d * X p d) - 2 * (∑ d, X p d * c k d) + ∑ d, c k d * c k d)

/-- The soft assignment of the pixels to the centroids `c`. -/
def assign (X : P → D → ℝ) (c : K → D → ℝ) : K → P → ℝ := soft (negDist X c)

/-- The centroids of the assignment `a`: the weighted means of the pixels. -/
def update (ε : ℝ) (X : P → D → ℝ) (a : K → P → ℝ) (k : K) (d : D) : ℝ := (∑ p, a k p * X p d) / (∑ p, a k p + ε)

/-- The centroids after `n` updates from `c₀`. -/
def cents (ε : ℝ) (X : P → D → ℝ) (c₀ : K → D → ℝ) : ℕ → K → D → ℝ
  | 0 => c₀
  | n + 1 => update ε X (assign X (cents ε X c₀ n))

/-- The product of the assignments with the Gram matrix. -/
def wdot (G : P → P → ℝ) (q : K → P → ℝ) (k : K) (p : P) : ℝ := ∑ p', q k p' * G p' p

/-- The score the Gram form gives pixel `p` at cluster `k`. -/
def score (G : P → P → ℝ) (q : K → P → ℝ) (r : K → ℝ) (k : K) (p : P) : ℝ :=
  r k * (wdot G q k p + wdot G q k p - r k * ∑ p', wdot G q k p' * q k p')

/-- The reciprocal of a cluster's weight. -/
def recip (ε : ℝ) (q : K → P → ℝ) (k : K) : ℝ := 1 / (∑ p, q k p + ε)

/-- The assignments and reciprocal weights after `n` iterations in Gram form. -/
def gram (ε : ℝ) (G : P → P → ℝ) (q₀ : K → P → ℝ) (r₀ : K → ℝ) : ℕ → (K → P → ℝ) × (K → ℝ)
  | 0 => (q₀, r₀)
  | n + 1 =>
    (soft (score G (gram ε G q₀ r₀ n).1 (gram ε G q₀ r₀ n).2),
      recip ε (soft (score G (gram ε G q₀ r₀ n).1 (gram ε G q₀ r₀ n).2)))

omit [Fintype P] in
/-- Adding a number that depends on the pixel alone to the scores leaves the softmax over the clusters. -/
theorem soft_shift (s s' : K → P → ℝ) (t : P → ℝ) (h : ∀ k p, s k p = s' k p + t p) : soft s = soft s' := by
  funext k p
  unfold soft
  simp only [h, Real.exp_add, ← Finset.sum_mul]
  rw [mul_div_mul_right _ _ (Real.exp_pos _).ne']

/-- Where the centroids are the weighted sums of the pixels, the Gram score is minus the squared distance plus the
    pixel's own square. -/
theorem score_eq (X : P → D → ℝ) (G : P → P → ℝ) (hG : ∀ p p', G p p' = ∑ d, X p d * X p' d) (q : K → P → ℝ)
    (r : K → ℝ) (c : K → D → ℝ) (hc : ∀ k d, c k d = r k * ∑ p, q k p * X p d) (k : K) (p : P) :
    score G q r k p = negDist X c k p + ∑ d, X p d * X p d := by
  have h1 : ∀ k p, ∑ d, X p d * c k d = r k * wdot G q k p := by
    intro k p
    unfold wdot
    simp only [hc, hG, Finset.mul_sum]
    rw [Finset.sum_comm]
    refine Finset.sum_congr rfl fun p' _ => Finset.sum_congr rfl fun d _ => ?_
    ring
  have h2 : ∀ k, ∑ d, c k d * c k d = r k * (r k * ∑ p', wdot G q k p' * q k p') := by
    intro k
    have : ∀ d, c k d * c k d = r k * ∑ p, q k p * (X p d * c k d) := by
      intro d
      conv_lhs => rw [hc k d]
      rw [mul_assoc, Finset.sum_mul]
      congr 1
      refine Finset.sum_congr rfl fun p _ => ?_
      rw [← hc]; ring
    simp only [this]
    rw [← Finset.mul_sum, Finset.sum_comm]
    congr 1
    simp only [← Finset.mul_sum, h1]
    rw [Finset.mul_sum]
    refine Finset.sum_congr rfl fun p _ => ?_
    ring
  unfold score negDist
  rw [h1, h2]
  ring

/-- One iteration in Gram form assigns as the centroids do. -/
theorem soft_score (X : P → D → ℝ) (G : P → P → ℝ) (hG : ∀ p p', G p p' = ∑ d, X p d * X p' d) (q : K → P → ℝ)
    (r : K → ℝ) (c : K → D → ℝ) (hc : ∀ k d, c k d = r k * ∑ p, q k p * X p d) :
    soft (score G q r) = assign X c :=
  soft_shift _ _ _ (score_eq X G hG q r c hc)

/-- The weighted sums of the pixels under the reciprocal weights are the updated centroids. -/
theorem update_eq (ε : ℝ) (X : P → D → ℝ) (a : K → P → ℝ) (k : K) (d : D) :
    update ε X a k d = recip ε a k * ∑ p, a k p * X p d := by
  unfold update recip
  rw [one_div, div_eq_inv_mul]

/-- `n + 1` iterations in Gram form, from weights that stand for the centroids `c₀`, are the assignment to the
    centroids after `n` updates. -/
theorem gram_succ (ε : ℝ) (X : P → D → ℝ) (G : P → P → ℝ) (hG : ∀ p p', G p p' = ∑ d, X p d * X p' d)
    (q₀ : K → P → ℝ) (r₀ : K → ℝ) (c₀ : K → D → ℝ) (hc : ∀ k d, c₀ k d = r₀ k * ∑ p, q₀ k p * X p d) (n : ℕ) :
    (gram ε G q₀ r₀ (n + 1)).1 = assign X (cents ε X c₀ n) := by
  induction n with
  | zero => exact soft_score X G hG q₀ r₀ c₀ hc
  | succ n ih =>
    refine soft_score X G hG _ _ _ fun k d => ?_
    have h2 : (gram ε G q₀ r₀ (n + 1)).2 = recip ε (gram ε G q₀ r₀ (n + 1)).1 := rfl
    rw [h2, ih]
    exact update_eq ε X _ k d

end Maths

section Lift

/-- A finite sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum from minus infinity of finitely many reals, at least one, is a real. -/
theorem exists_fold_max {ι : Type} [Fintype ι] [Nonempty ι] (f : ι → ℝ) :
    ∃ M : ℝ, Finset.univ.fold max (⊥ : EReal) (fun i => (f i : EReal)) = (M : EReal) := by
  classical
  suffices h : ∀ s : Finset ι, s.Nonempty → ∃ M : ℝ, s.fold max (⊥ : EReal) (fun i => (f i : EReal)) = (M : EReal) from
    h _ Finset.univ_nonempty
  intro s hs
  induction hs using Finset.Nonempty.cons_induction with
  | singleton a => exact ⟨f a, by simp⟩
  | cons a s ha _ ih =>
    obtain ⟨M, hM⟩ := ih
    exact ⟨max (f a) M, by rw [Finset.fold_cons, hM]; exact (EReal.coe_strictMono.monotone.map_max).symm⟩

open Idealize.ShloMosaic in
/-- A real divided by a nonzero real. -/
theorem div_coe_coe (x y : ℝ) (h : y ≠ 0) : Ideal.div (x : EReal) (y : EReal) = ((x / y : ℝ) : EReal) := by
  rw [Ideal.div_coe h, ← EReal.coe_mul]
  congr 1
  ring

/-- The softmax written with the maximum subtracted. -/
theorem soft_sub {P K : Type} [Fintype K] (s : K → P → ℝ) (M : P → ℝ) (k : K) (p : P) :
    Real.exp (s k p - M p) * (1 / ∑ k', Real.exp (s k' p - M p)) = soft s k p := by
  rw [← congrFun (congrFun (soft_shift (fun k p => s k p - M p) s (fun p => -M p) (fun _ _ => sub_eq_add_neg _ _)) k) p]
  unfold soft
  rw [mul_one_div]

/-- The small number the weights are enlarged by, as the 32-bit constant holds it. -/
def eps : ℝ := 11258999 / 2 ^ 50

/-- The small number of the updates is positive. -/
theorem eps_pos : 0 < eps := by unfold eps; positivity

open Idealize.ShloMosaic in
/-- The f32 word nearest 1e-8, as a real. -/
theorem ofBits_eps : Ideal.ofBits .f32 0x322BCC77#32 = ((eps : ℝ) : EReal) := by
  simp [Ideal.ofBits, Ideal.ieee, -EReal.coe_mul, eps]; norm_num

open Idealize.ShloMosaic in
/-- The f32 word of minus infinity. -/
theorem ofBits_ninf : Ideal.ofBits .f32 0xFF800000#32 = (⊥ : EReal) := by
  simp [Ideal.ofBits, Ideal.ieee]

open Idealize.ShloMosaic in
/-- The f32 word of three. -/
theorem ofBits_three : Ideal.ofBits .f32 0x40400000#32 = ((3 : ℝ) : EReal) := by
  simp [Ideal.ofBits, Ideal.ieee, -EReal.coe_mul]; norm_num

open Idealize.ShloMosaic in
/-- The f32 word of two. -/
theorem ofBits_two : Ideal.ofBits .f32 0x40000000#32 = ((2 : ℝ) : EReal) := by
  simp [Ideal.ofBits, Ideal.ieee, -EReal.coe_mul]; norm_num

open Idealize.ShloMosaic in
/-- The f32 word of sixty-four. -/
theorem ofBits_sixtyfour : Ideal.ofBits .f32 0x42800000#32 = ((64 : ℝ) : EReal) := by
  simp [Ideal.ofBits, Ideal.ieee, -EReal.coe_mul]; norm_num

open Idealize.ShloMosaic in
/-- The f32 word of one sixty-fourth. -/
theorem ofBits_sixtyfourth : Ideal.ofBits .f32 0x3C800000#32 = ((1 / 64 : ℝ) : EReal) := by
  simp [Ideal.ofBits, Ideal.ieee, -EReal.coe_mul]; norm_num

/-- A softmax is positive. -/
theorem soft_pos {P K : Type} [Fintype K] [Nonempty K] (s : K → P → ℝ) (k : K) (p : P) : 0 < soft s k p :=
  div_pos (Real.exp_pos _) (Finset.sum_pos (fun _ _ => Real.exp_pos _) Finset.univ_nonempty)

/-- A pixel's softmax over the clusters sums to one. -/
theorem sum_soft {P K : Type} [Fintype K] [Nonempty K] (s : K → P → ℝ) (p : P) : ∑ k, soft s k p = 1 := by
  unfold soft
  rw [← Finset.sum_div, div_self (Finset.sum_pos (fun _ _ => Real.exp_pos _) Finset.univ_nonempty).ne']

end Lift

/-! ## The image -/

/-- The scaled coordinates of pixel `p`: its column, then its row, times three. -/
def coord (p : Fin 576) (a : Fin 2) : ℝ := if a = 0 then ((p.val % 24 : ℕ) : ℝ) * 3 else ((p.val / 24 : ℕ) : ℝ) * 3

/-- A pixel's features: its scaled coordinates, then its embedding. -/
def feats (e : Fin 576 → Fin 768 → ℝ) (p : Fin 576) (d : Fin 770) : ℝ :=
  if h : d.val < 2 then coord p ⟨d.val, h⟩ else e p ⟨d.val - 2, by omega⟩

/-- The cluster in whose block of the grid pixel `p` lies. -/
def blk (p : Fin 576) : Fin 9 := ⟨p.val / 24 / 8 * 3 + p.val % 24 / 8, by omega⟩

/-- The block indicator. -/
def ind (k : Fin 9) (p : Fin 576) : ℝ := if blk p = k then 1 else 0

/-- The initial centroids: the means over the blocks. -/
def init (X : Fin 576 → Fin 770 → ℝ) (k : Fin 9) (d : Fin 770) : ℝ := 1 / 64 * ∑ p, ind k p * X p d

/-- The Gram matrix of the features, as a product of embeddings plus a product of coordinates. -/
def gmat (e : Fin 576 → Fin 768 → ℝ) (p p' : Fin 576) : ℝ := ∑ d, e p d * e p' d + ∑ a, coord p a * coord p' a

/-- The Gram matrix of the embeddings and the positions is that of the features. -/
theorem gmat_eq (e : Fin 576 → Fin 768 → ℝ) (p p' : Fin 576) :
    gmat e p p' = ∑ d, feats e p d * feats e p' d := by
  have h := Fin.sum_univ_add (a := 2) (b := 768) (fun d : Fin (2 + 768) => feats e p d * feats e p' d)
  rw [gmat, add_comm]
  refine Eq.trans ?_ h.symm
  congr 1

/-- The soft assignment after `n` centroid updates: the result at pixel `p` and cluster `k`. -/
def result (e : Fin 576 → Fin 768 → ℝ) (n : ℕ) (p : Fin 576) (k : Fin 9) : ℝ :=
  assign (feats e) (cents eps (feats e) (init (feats e)) n) k p

/-- Ten iterations in Gram form from the block indicator give the assignment after nine centroid updates. -/
theorem gram_result (e : Fin 576 → Fin 768 → ℝ) (n : ℕ) (p : Fin 576) (k : Fin 9) :
    (gram eps (gmat e) ind (fun _ => 1 / 64) (n + 1)).1 k p = result e n p k := by
  rw [gram_succ eps (feats e) (gmat e) (gmat_eq e) ind (fun _ => 1 / 64) (init (feats e)) (fun _ _ => rfl)]
  rfl

end Cert.Soft

end
-- ==== Proof.KValue.lean ====
module

public import proofs.«01_k».proof.Proof.KBlock
public import proofs.«01_k».proof.Proof.Spec

@[expose] public section

set_option maxRecDepth 16384

noncomputable section

/-! The body's arithmetic where every embedding is a real. -/

namespace Cert.KernelIdeal.Block

open Cert.KernelIdeal Cert.KernelIdeal.Gen Idealize.ShloMosaic Idealize.ShloMosaic.TcCoe
open Idealize.ShloMosaic.Tactic Cert.Soft

/-- A 32-bit number below 24, converted to a float, is itself. -/
theorem sitofp_lt (n : ℕ) (h : n < 24) : (FloatOps.sitofp .f32 (BitVec.ofNat 32 n) : Ideal .f32) = ((n : ℝ) : EReal) := by
  have : (BitVec.ofNat 32 n).toInt = (n : ℤ) := by
    interval_cases n <;> rfl
  show (((BitVec.ofNat 32 n).toInt : ℝ) : EReal) = _
  rw [this]; simp

/-- The column coordinate, scaled. -/
theorem pay2_at (p : Fin 576) (a : Fin 2) : (k0_pay2 (F := Ideal)) (ix2 p a) = ((((p.val % 24 : ℕ) : ℝ) * 3 : ℝ) : EReal) := by
  pointwise [k0_pay2]
  rw [ofBits_three, EReal.coe_mul, ← sitofp_lt _ (Nat.mod_lt _ (by decide))]
  refine congrArg (fun w : BitVec 32 => (FloatOps.sitofp .f32 w : Ideal .f32) * ((3 : ℝ) : EReal)) ?_
  revert p
  decide +kernel

/-- The row coordinate. -/
theorem pay3_at (p : Fin 576) (a : Fin 2) : k0_pay3 (ix2 p a) = BitVec.ofNat 32 (p.val / 24) := by
  pointwise [k0_pay3]
  revert p
  decide +kernel

/-- The Gram matrix of the coordinates. -/
theorem cgram_at (p p' : Fin 576) : (cgram (F := Ideal)) (ix2 p p') = ((∑ a, coord p a * coord p' a : ℝ) : EReal) := by
  have h : ∀ (p : Fin 576) (a : Fin 2), Scalar.select (IntOp.cmpi CmpIPredicate.eq (BitVec.ofNat 32 a.val) 0#32)
      (k0_pay2 (F := Ideal) (ix2 p a)) (FloatOps.sitofp FTy.f32 (k0_pay3 (ix2 p a)) * Ideal.ofBits FTy.f32 0x40400000#32)
      = ((coord p a : ℝ) : EReal) := by
    intro p a
    rw [pay2_at, pay3_at, sitofp_lt _ (by omega), ofBits_three, ← EReal.coe_mul]
    unfold coord
    fin_cases a
    · exact if_pos rfl
    · exact if_neg (by decide)
  have hi : ∀ (p : Fin 576) (a : Fin 2), iota .tc S576x2 32 [1] iota_S576x2_d1_w32 (ix2 p a) = BitVec.ofNat 32 a.val := by
    intro p a
    pointwise
  pointwise [cgram, k0_pay4]
  simp only [h, hi, ← EReal.coe_mul, ← coe_sum]

/-- One image's Gram slab. -/
theorem slab_at (X : Vec Ideal S1x576x768 .f32) (e : Fin 576 → Fin 768 → ℝ)
    (hX : ∀ p d, X (ix3 0 p d) = ((e p d : ℝ) : EReal)) (p p' : Fin 576) :
    slab X (ix3 0 p p') = ((gmat e p p' : ℝ) : EReal) := by
  pointwise [slab, k0_pay10]
  simp only [hX, cgram_at, ← EReal.coe_mul, ← coe_sum]
  rw [← EReal.coe_add]
  rfl

/-- The block indicator. -/
theorem q0_at (k : Fin 9) (p : Fin 576) : (q0 (F := Ideal)) (ix2 k p) = ((ind k p : ℝ) : EReal) := by
  have h1 : ((ind k p : ℝ) : EReal) = (FloatOps.sitofp .f32 (if blk p = k then 1#32 else 0#32) : Ideal .f32) := by
    unfold ind
    split
    · exact (congrArg _ Nat.cast_one.symm).trans (sitofp_lt 1 (by decide)).symm
    · exact (congrArg _ Nat.cast_zero.symm).trans (sitofp_lt 0 (by decide)).symm
  pointwise [q0, k0_pay17, k0_pay18, k0_pay19, k0_pay20]
  rw [h1]
  clear h1
  refine congrArg (fun w : BitVec 32 => (FloatOps.sitofp .f32 w : Ideal .f32)) ?_
  revert p k
  decide +kernel

/-- The initial reciprocal weights. -/
theorem pay21_at (k : Fin 9) : (k0_pay21 (F := Ideal)) (ix2 k 0) = ((1 / 64 : ℝ) : EReal) := by
  pointwise [k0_pay21]
  exact ofBits_sixtyfourth

/-- The product with the Gram slab. -/
theorem pay22_at (q : FVec Ideal S9x576 .f32) (G : Vec Ideal S1x576x576 .f32) (Q : Fin 9 → Fin 576 → ℝ) (g : Fin 576 → Fin 576 → ℝ)
    (hq : ∀ k p, q (ix2 k p) = ((Q k p : ℝ) : EReal)) (hG : ∀ p p', G (ix3 0 p p') = ((g p p' : ℝ) : EReal)) (k : Fin 9) (p : Fin 576) :
    k0_pay22 q G (ix2 k p) = ((wdot g Q k p : ℝ) : EReal) := by
  pointwise [k0_pay22]
  simp only [hq, hG, ← EReal.coe_mul, ← coe_sum]
  rfl

/-- The softmax of one iteration. -/
theorem pay32_at (q : FVec Ideal S9x576 .f32) (r : FVec Ideal S9x1 .f32) (w : FVec Ideal S9x576 .f32) (k : Fin 9) (p : Fin 576) :
    k0_pay32 q r w (ix2 k p) = Ideal.exp (r (ix2 k 0) * (w (ix2 k p) + w (ix2 k p) - r (ix2 k 0) * ∑ x, w (ix2 k x) * q (ix2 k x))
        - Finset.fold max (Ideal.ofBits .f32 0xFF800000#32)
          (fun x => r (ix2 x 0) * (w (ix2 x p) + w (ix2 x p) - r (ix2 x 0) * ∑ y, w (ix2 x y) * q (ix2 x y))) Finset.univ)
      * Ideal.div 1 (∑ k, Ideal.exp (r (ix2 k 0) * (w (ix2 k p) + w (ix2 k p) - r (ix2 k 0) * ∑ x, w (ix2 k x) * q (ix2 k x))
        - Finset.fold max (Ideal.ofBits .f32 0xFF800000#32)
          (fun x => r (ix2 x 0) * (w (ix2 x p) + w (ix2 x p) - r (ix2 x 0) * ∑ y, w (ix2 x y) * q (ix2 x y))) Finset.univ)) := by
  pointwise [k0_pay32]

/-- The reciprocal weights of one iteration. -/
theorem pay33_at (q : FVec Ideal S9x576 .f32) (r : FVec Ideal S9x1 .f32) (w : FVec Ideal S9x576 .f32) (k : Fin 9) :
    k0_pay33 q r w (ix2 k 0) = Ideal.div 1 (∑ x, k0_pay32 q r w (ix2 k x) + Ideal.ofBits .f32 0x322BCC77#32) := by
  pointwise [k0_pay33]

/-- One iteration on reals is the iteration in Gram form. -/
theorem next_at (G : Vec Ideal S1x576x576 .f32) (g : Fin 576 → Fin 576 → ℝ) (hG : ∀ p p', G (ix3 0 p p') = ((g p p' : ℝ) : EReal))
    (s : FVec Ideal S9x576 .f32 × FVec Ideal S9x1 .f32) (Q : Fin 9 → Fin 576 → ℝ) (R : Fin 9 → ℝ)
    (hq : ∀ k p, s.1 (ix2 k p) = ((Q k p : ℝ) : EReal)) (hr : ∀ k, s.2 (ix2 k 0) = ((R k : ℝ) : EReal)) :
    (∀ k p, (next G s).1 (ix2 k p) = ((soft (score g Q R) k p : ℝ) : EReal)) ∧
    ∀ k, (next G s).2 (ix2 k 0) = ((recip eps (soft (score g Q R)) k : ℝ) : EReal) := by
  have hw := pay22_at s.1 G Q g hq hG
  have h1 : ∀ k p, (next G s).1 (ix2 k p) = ((soft (score g Q R) k p : ℝ) : EReal) := by
    intro k p
    show k0_pay32 s.1 s.2 (k0_pay22 s.1 G) (ix2 k p) = _
    rw [pay32_at]
    obtain ⟨M, hM⟩ := exists_fold_max (fun k => score g Q R k p)
    have hs : ∀ k, (((R k : ℝ) : EReal) * (((wdot g Q k p : ℝ) : EReal) + ((wdot g Q k p : ℝ) : EReal)
        - ((R k : ℝ) : EReal) * ∑ x, ((wdot g Q k x : ℝ) : EReal) * ((Q k x : ℝ) : EReal))) = ((score g Q R k p : ℝ) : EReal) := by
      intro k
      simp only [← EReal.coe_mul, ← coe_sum]
      rw [← EReal.coe_add, ← EReal.coe_sub, ← EReal.coe_mul]
      rfl
    simp only [hw, hq, hr, hs, ofBits_ninf, hM, ← EReal.coe_sub, Ideal.exp_coe, ← coe_sum]
    rw [← EReal.coe_one, div_coe_coe _ _ (Finset.sum_pos (fun _ _ => Real.exp_pos _) Finset.univ_nonempty).ne', ← EReal.coe_mul]
    exact congrArg _ (soft_sub (score g Q R) (fun _ => M) k p)
  refine ⟨h1, fun k => ?_⟩
  show k0_pay33 s.1 s.2 (k0_pay22 s.1 G) (ix2 k 0) = _
  rw [pay33_at]
  have h1' : ∀ k p, k0_pay32 s.1 s.2 (k0_pay22 s.1 G) (ix2 k p) = ((soft (score g Q R) k p : ℝ) : EReal) := h1
  simp only [h1', ← coe_sum, ofBits_eps, ← EReal.coe_add]
  rw [← EReal.coe_one, div_coe_coe _ _ (add_pos_of_nonneg_of_pos (Finset.sum_nonneg fun p _ => (soft_pos _ k p).le) eps_pos).ne']
  rfl

/-- The state after `n` iterations on a real Gram slab. -/
theorem state_at (G : Vec Ideal S1x576x576 .f32) (g : Fin 576 → Fin 576 → ℝ) (hG : ∀ p p', G (ix3 0 p p') = ((g p p' : ℝ) : EReal)) (n : ℕ) :
    (∀ k p, (state G n).1 (ix2 k p) = (((gram eps g ind (fun _ => 1 / 64) n).1 k p : ℝ) : EReal)) ∧
    ∀ k, (state G n).2 (ix2 k 0) = (((gram eps g ind (fun _ => 1 / 64) n).2 k : ℝ) : EReal) := by
  induction n with
  | zero => exact ⟨q0_at, pay21_at⟩
  | succ n ih => exact next_at G g hG (state G n) _ _ ih.1 ih.2

/-- What the body stores for one image with real embeddings: the assignment after nine centroid updates. -/
theorem store_at (X : Vec Ideal S1x576x768 .f32) (e : Fin 576 → Fin 768 → ℝ)
    (hX : ∀ p d, X (ix3 0 p d) = ((e p d : ℝ) : EReal)) (p : Fin 576) (k : Fin 9) :
    store (slab X) (ix3 0 p k) = ((result e 9 p k : ℝ) : EReal) := by
  have h := (state_at (slab X) (gmat e) (slab_at X e hX) 10).1 k p
  unfold store
  pointwise [k0_pay307]
  rw [h, gram_result e 9 p k]

end Cert.KernelIdeal.Block

end
-- ==== Proof.KArray.lean ====
module

public import proofs.«01_k».proof.Proof.KValue
public import Idealize.ShloMosaic.Lib.Pipeline.ValueKit
public import Idealize.ShloMosaic.Lib.Pipeline.ReadBack
public import Idealize.ShloMosaic.Lib.WholeRead

@[expose] public section

set_option maxRecDepth 16384

noncomputable section

/-! The kernel's array after the run, where every embedding is a real. -/

namespace Cert.KernelIdeal.Block

open Cert.KernelIdeal Cert.KernelIdeal.Gen Idealize.ShloMosaic Idealize.ShloMosaic.TcCoe
open Idealize.ShloMosaic.Tactic Cert.Soft

/-- Different images' slabs share no element. -/
theorem disj_rg : ∀ g g' : Fin 8, g ≠ g' → LoadRect.disj (rg g) (rg g').toLoadRect = true := by decide +kernel

/-- Reading image g's slab after all slabs of a list are written gives what was written for image g. -/
theorem load_of_list (v : View sig .tc .vmem S8x576x576 .f32) (f : Fin 8 → FVec Ideal S1x576x576 .f32) (g : Fin 8) :
    ∀ l : List (Fin 8), g ∈ l →
      v.readCov (l.map fun g => (⟨rg g, f g⟩ : View.Piece (Elt Ideal) S8x576x576 .f32)) (rg g).toLoadRect = f g
  | g' :: l, h => by
    rw [List.map_cons]
    by_cases hg : g' = g
    · subst hg
      exact View.readCov_cons_toLoadRect _ _ _ _
    · rw [View.readCov_skip _ _ _ _ _ (disj_rg g' g hg)]
      exact load_of_list v f g l ((List.mem_cons.mp h).resolve_left (Ne.symm hg))

/-- Loading one image's slab from the scratch gives what was stored there. -/
theorem load_slab (arg1 : Memref sig .tc .vmem S8x576x768 .f32) (harg1 : arg1.IsWhole) (arg3 : Memref sig .tc .vmem S8x576x576 .f32)
    (x0 : Vec Ideal S8x576x768 .f32) (g : Fin 8) :
    arg3.view.readCov (slabs arg1 harg1 x0) (rg g).toLoadRect = slab (View.readAt (Elt Ideal) arg1.view (rx g).toLoadRect (harg1.unread x0)) :=
  load_of_list arg3.view _ g _ (by revert g; decide)

/-- One image's slice of a block of embeddings, at an index. -/
theorem slice_at (arg1 : Memref sig .tc .vmem S8x576x768 .f32) (harg1 : arg1.IsWhole) (x0 : Vec Ideal S8x576x768 .f32) (g : Fin 8)
    (p : Fin 576) (d : Fin 768) :
    View.readAt (Elt Ideal) arg1.view (rx g).toLoadRect (harg1.unread x0) (ix3 0 p d) = x0 (ix3 g p d) := by
  rw [Memref.IsWhole.readAt_unread]
  congr 1
  funext a; apply Fin.ext
  fin_cases a
  · show g.val + 1 * 0 = g.val; omega
  · show 0 + 1 * p.val = p.val; omega
  · show 0 + 1 * d.val = d.val; omega

/-- An array of eight images' results from reals. -/
def outF (R : Fin 8 → Fin 576 → Fin 9 → ℝ) : Vec Ideal S8x576x9 .f32 := fun j => ((R (j 0) (j 1) (j 2) : ℝ) : EReal)

/-- What the body leaves in the output's staging buffer: the images' results. -/
theorem out_at (c : Dev nD) (i : grid0.Coords) (arg1 : Memref sig .tc .vmem S8x576x768 .f32) (harg1 : arg1.IsWhole) (arg2 : Memref sig .tc .vmem S8x576x9 .f32) (harg2 : arg2.IsWhole) (arg3 : Memref sig .tc .vmem S8x576x576 .f32) (harg3 : arg3.IsWhole)
    (x0 : Vec Ideal S8x576x768 .f32) (e : Fin 8 → Fin 576 → Fin 768 → ℝ)
    (he : ∀ g p d, x0 (ix3 g p d) = ((e g p d : ℝ) : EReal)) :
    out0_A_1 c i arg1 harg1 arg2 harg2 arg3 harg3 x0 = outF fun g => result (e g) 9 := by
  unfold out0_A_1
  rw [View.read_writes_junk_eq_canon]
  funext y
  refine View.canon_apply_of_pieces _ _ ?_ y (cover0_A_1 c i arg1 harg1 arg2 harg2 arg3 harg3 x0 y)
  rw [pieces_eq]
  intro q hq x
  obtain ⟨g, _, rfl⟩ := List.mem_map.mp hq
  show store (arg3.view.readCov (slabs arg1 harg1 x0) (rg g).toLoadRect) x = _
  rw [load_slab]
  have hx : x = ix3 0 (x 1) (x 2) := by
    funext a; fin_cases a
    · exact Fin.ext (Nat.lt_one_iff.mp (x 0).isLt)
    · rfl
    · rfl
  have h := store_at (View.readAt (Elt Ideal) arg1.view (rx g).toLoadRect (harg1.unread x0)) (e g)
    (fun p d => (slice_at arg1 harg1 x0 g p d).trans (he g p d)) (x 1) (x 2)
  refine ((congrArg _ hx).trans h).trans ?_
  have e0 : (ro g).emb x 0 = g := Fin.ext (by
    have : (x 0).val = 0 := Nat.lt_one_iff.mp (x 0).isLt
    show g.val + 1 * (x 0).val = g.val; omega)
  have e1 : (ro g).emb x 1 = x 1 := Fin.ext (by show 0 + 1 * (x 1).val = (x 1).val; omega)
  have e2 : (ro g).emb x 2 = x 2 := Fin.ext (by show 0 + 1 * (x 2).val = (x 2).val; omega)
  show _ = ((result (e ((ro g).emb x 0)) 9 ((ro g).emb x 1) ((ro g).emb x 2) : ℝ) : EReal)
  rw [e0, e1, e2]

/-- The whole array of results. -/
def arrF (R : Fin 128 → Fin 576 → Fin 9 → ℝ) : Vec Ideal S128x576x9 .f32 := fun j => ((R (j 0) (j 1) (j 2) : ℝ) : EReal)

/-- Both windows' blocks at a point are the point's eight images. -/
theorem idx_eq : ∀ t : Fin cfg0.N, win0_0.index t = ![t.val, 0, 0] ∧ win0_1.index t = ![t.val, 0, 0] := by decide +kernel

variable (m : (ℓ : Loc nD τ sig) → Buf (Elt Ideal) ℓ)

/-- A point's block of embeddings, at an index. -/
theorem iblk_at (c : Dev nD) (t : Fin cfg0.N) (g : Fin 8) (p : Fin 576) (d : Fin 768) :
    (iblk m c 0 t : Vec Ideal S8x576x768 .f32) (ix3 g p d)
      = (m ((c.tc : Thread nD τ).loc main_arg0) : FVec Ideal S128x576x768 .f32) (ix3 ⟨t.val * 8 + g.val, by
          have := t.isLt; have h : cfg0.N = 16 := by decide +kernel
          omega⟩ p d) := by
  blk_ext [iblk, V, idx_eq t]

/-- The kernel's array after the run: every image's assignment after nine centroid updates. -/
theorem arr_eq (c : Dev nD) (e : Fin 128 → Fin 576 → Fin 768 → ℝ)
    (he : ∀ b p d, (m ((c.tc : Thread nD τ).loc main_arg0) : FVec Ideal S128x576x768 .f32) (ix3 b p d) = ((e b p d : ℝ) : EReal)) :
    (dats m 0 c).arrAt 1 cfg0.N = arrF fun b => result (e b) 9 := by
  refine (dats m 0 c).arrAt_eq_of_covers 1 _ (by decide +kernel) fun t hf y => ?_
  rw [after0_1]
  have hN : cfg0.N = 16 := by decide +kernel
  have ht : t.val < 16 := lt_of_lt_of_eq t.isLt hN
  have ho : outsAt0 m c t = outF fun g => result (e ⟨t.val * 8 + g.val, by omega⟩) 9 :=
    out_at c _ _ _ _ _ _ _ _ (fun g => e ⟨t.val * 8 + g.val, by omega⟩) fun g p d => (iblk_at m c t g p d).trans (he _ _ _)
  rw [ho]
  have h0 : (((((cfg0.win 1).blk t).view.emb y) 0 : Fin 128) : ℕ) = t.val * 8 + (y 0).val := by
    blk_simp [idx_eq t]
  have h1 : (((((cfg0.win 1).blk t).view.emb y) 1 : Fin 576) : ℕ) = (y 1).val := by
    blk_simp [idx_eq t]
  have h2 : (((((cfg0.win 1).blk t).view.emb y) 2 : Fin 9) : ℕ) = (y 2).val := by
    blk_simp [idx_eq t]
  rw [cast_eq]
  obtain ⟨g, hg⟩ : ∃ g : Fin 8, g = (((cfg0.win 1).xinj (cfg0.grid.coords t) y) 0 : Fin 8) := ⟨_, rfl⟩
  have g0 : ((((cfg0.win 1).blk t).view.emb y) 0 : Fin 128) = (⟨t.val * 8 + g.val, by omega⟩ : Fin 128) := Fin.ext (h0.trans (congrArg (fun g : Fin 8 => t.val * 8 + g.val) hg.symm))
  have g1 : ((((cfg0.win 1).blk t).view.emb y) 1 : Fin 576) = (((cfg0.win 1).xinj (cfg0.grid.coords t) y) 1 : Fin 576) := Fin.ext h1
  have g2 : ((((cfg0.win 1).blk t).view.emb y) 2 : Fin 9) = (((cfg0.win 1).xinj (cfg0.grid.coords t) y) 2 : Fin 9) := Fin.ext h2
  unfold outF arrF
  rw [g0, g1, g2, ← hg]

end Cert.KernelIdeal.Block

end
-- ==== Proof.RHost.lean ====
module

public import proofs.«01_k».proof.Proof.Gen.ReferenceIdeal.Run
public import proofs.«01_k».proof.Proof.Spec

@[expose] public section

set_option maxRecDepth 16384

noncomputable section

/-! The reference's host operations as functions of arrays, and their values where every entry is a real. -/

namespace Cert.ReferenceIdeal.Read

open Cert.ReferenceIdeal Cert.ReferenceIdeal.Gen Idealize.ShloMosaic Idealize.ShloMosaic.TcCoe
open Idealize.ShloMosaic.Tactic Cert.Soft

variable {F : FTy → Type} [FloatOps F]

/-- Minus the squared distances, as the reference computes them. -/
def distH (x : FVec F S128x576x770 .f32) (c : FVec F S128x9x770 .f32) : FVec F S128x576x9 .f32 :=
  Host.negf (addf (subf (broadcastInDim S128x576x9 ![0, 1, 2] bcast_S128x576x1_S128x576x9_0_1_2 (broadcastInDim S128x576x1 ![0, 1] bcast_S128x576_S128x576x1_0_1 (Host.reduceAdd (mulf x x) (constant S_ .f32 0x00000000#32) reducesTo_S128x576x770_S128x576_d2 h_S_))) (mulf (broadcastInDim S128x576x9 ![] bcast_S_S128x576x9 (constant S_ .f32 0x40000000#32)) (Host.dotGeneral dot_S128x576x770_S128x9x770_S128x576x9_2_2_1_1_0_0 none x c))) (broadcastInDim S128x576x9 ![0, 1, 2] bcast_S128x1x9_S128x576x9_0_1_2 (broadcastInDim S128x1x9 ![0, 2] bcast_S128x9_S128x1x9_0_2 (Host.reduceAdd (mulf c c) (constant S_ .f32 0x00000000#32) reducesTo_S128x9x770_S128x9_d2 h_S_))))

/-- The exponentials of the scores less their maximum. -/
def expH (s : FVec F S128x576x9 .f32) : FVec F S128x576x9 .f32 :=
  Host.exp (subf s (broadcastInDim S128x576x9 ![0, 1, 2] bcast_S128x576x1_S128x576x9_0_1_2 (broadcastInDim S128x576x1 ![0, 1] bcast_S128x576_S128x576x1_0_1 (maximumf (broadcastInDim S128x576 ![] bcast_S_S128x576 (constant S_ .f32 0xFF800000#32)) (Host.reduce FloatOps.maximumf s (constant S_ .f32 0xFF800000#32) reducesTo_S128x576x9_S128x576_d2 h_S_)))))

/-- The exponentials over their sum. -/
def normH (e : FVec F S128x576x9 .f32) : FVec F S128x576x9 .f32 :=
  Host.divf e (broadcastInDim S128x576x9 ![0, 1, 2] bcast_S128x576x1_S128x576x9_0_1_2 (broadcastInDim S128x576x1 ![0, 1] bcast_S128x576_S128x576x1_0_1 (Host.reduceAdd e (constant S_ .f32 0x00000000#32) reducesTo_S128x576x9_S128x576_d2 h_S_)))

/-- The assignment to the centroids. -/
def softH (x : FVec F S128x576x770 .f32) (c : FVec F S128x9x770 .f32) : FVec F S128x576x9 .f32 := normH (expH (distH x c))

/-- The centroids of an assignment. -/
def updH (a : FVec F S128x576x9 .f32) (x : FVec F S128x576x770 .f32) : FVec F S128x9x770 .f32 :=
  Host.divf (Host.dotGeneral dot_S128x576x9_S128x576x770_S128x9x770_1_1_2_2_0_0 none a x) (broadcastInDim S128x9x770 ![0, 1, 2] bcast_S128x9x1_S128x9x770_0_1_2 (addf (broadcastInDim S128x9x1 ![0, 1] bcast_S128x9_S128x9x1_0_1 (Host.reduceAdd a (constant S_ .f32 0x00000000#32) reducesTo_S128x576x9_S128x9_d1 h_S_)) (broadcastInDim S128x9x1 ![] bcast_S_S128x9x1 (constant S_ .f32 0x322BCC77#32))))

/-- The scaled coordinates, one column each. -/
def coordH : FVec F S576x2 .f32 :=
  concatenate S576x2 1 [⟨S576x1, broadcastInDim S576x1 ![0] bcast_S576_S576x1_0 (mulf (shapeCast S576 (broadcastInDim S24x24 ![0, 1] bcast_S1x24_S24x24_0_1 (shapeCast S1x24 (sitofp .f32 (iotaInDim S24 32 0) : FVec F S24 .f32) shapeCasts_S24_S1x24)) shapeCasts_S24x24_S576) (broadcastInDim S576 ![] bcast_S_S576 (constant S_ .f32 0x40400000#32)))⟩, ⟨S576x1, broadcastInDim S576x1 ![0] bcast_S576_S576x1_0 (mulf (shapeCast S576 (broadcastInDim S24x24 ![0] bcast_S24_S24x24_0 (sitofp .f32 (iotaInDim S24 32 0) : FVec F S24 .f32)) shapeCasts_S24x24_S576) (broadcastInDim S576 ![] bcast_S_S576 (constant S_ .f32 0x40400000#32)))⟩] concatenates_S576x1_S576x1_S576x2_d1

/-- The features: coordinates, then embedding. -/
def featH (a : FVec F S128x576x768 .f32) : FVec F S128x576x770 .f32 :=
  concatenate S128x576x770 2 [⟨S128x576x2, broadcastInDim S128x576x2 ![1, 2] bcast_S576x2_S128x576x2_1_2 coordH⟩, ⟨S128x576x768, a⟩] concatenates_S128x576x2_S128x576x768_S128x576x770_d2

/-- The initial centroids: the means over the blocks of the grid. -/
def initH (x : FVec F S128x576x770 .f32) : FVec F S128x9x770 .f32 :=
  shapeCast S128x9x770 (Host.divf (Host.reduceAdd (shapeCast S128x3x8x3x8x770 x shapeCasts_S128x576x770_S128x3x8x3x8x770) (constant S_ .f32 0x00000000#32) reducesTo_S128x3x8x3x8x770_S128x3x3x770_d2_4 h_S_) (broadcastInDim S128x3x3x770 ![] bcast_S_S128x3x3x770 (constant S_ .f32 0x42800000#32))) shapeCasts_S128x3x3x770_S128x9x770

/-! ## At an index -/

/-- The reference's score at an index: minus the squared distance, multiplied out. -/
theorem distH_at (x : FVec Ideal S128x576x770 .f32) (c : FVec Ideal S128x9x770 .f32) (b : Fin 128) (p : Fin 576) (k : Fin 9) :
    distH x c (ix3 b p k) = -(∑ d, x (ix3 b p d) * x (ix3 b p d) - Ideal.ofBits .f32 0x40000000#32 * ∑ d, x (ix3 b p d) * c (ix3 b k d)
      + ∑ d, c (ix3 b k d) * c (ix3 b k d)) := by
  pointwise [distH]

/-- The exponentials at an index, of the scores less their maximum. -/
theorem expH_at (s : FVec Ideal S128x576x9 .f32) (b : Fin 128) (p : Fin 576) (k : Fin 9) :
    expH s (ix3 b p k) = Ideal.exp (s (ix3 b p k) - max (Ideal.ofBits .f32 0xFF800000#32)
      (Finset.fold max (Ideal.ofBits .f32 0xFF800000#32) (fun k => s (ix3 b p k)) Finset.univ)) := by
  pointwise [expH]

/-- The quotients by the clusters' sum at an index. -/
theorem normH_at (s : FVec Ideal S128x576x9 .f32) (b : Fin 128) (p : Fin 576) (k : Fin 9) :
    normH s (ix3 b p k) = Ideal.div (s (ix3 b p k)) (∑ k, s (ix3 b p k)) := by
  pointwise [normH]

/-- The updated centroids at an index: the weighted sum of the features over the weight. -/
theorem updH_at (a : FVec Ideal S128x576x9 .f32) (x : FVec Ideal S128x576x770 .f32) (b : Fin 128) (k : Fin 9) (d : Fin 770) :
    updH a x (ix3 b k d) = Ideal.div (∑ p, a (ix3 b p k) * x (ix3 b p d)) (∑ p, a (ix3 b p k) + Ideal.ofBits .f32 0x322BCC77#32) := by
  pointwise [updH]

/-- A coordinate below 24, converted to a float, is itself. -/
theorem sitofp_small (n : ℕ) (h : n < 24) : (FloatOps.sitofp .f32 (BitVec.ofNat 32 n) : Ideal .f32) = ((n : ℝ) : EReal) := by
  have : (BitVec.ofNat 32 n).toInt = (n : ℤ) := by
    interval_cases n <;> rfl
  show (((BitVec.ofNat 32 n).toInt : ℝ) : EReal) = _
  rw [this]; simp

/-- The scaled positions are those of the specification. -/
theorem coordH_at (p : Fin 576) (a : Fin 2) : (coordH : FVec Ideal S576x2 .f32) (ix2 p a) = ((coord p a : ℝ) : EReal) := by
  pointwise [coordH]
  rw [sitofp_small _ (Nat.mod_lt _ (by decide)), sitofp_small _ (by omega), ofBits_three, ← EReal.coe_mul, ← EReal.coe_mul]
  unfold coord
  fin_cases a <;> simp

/-- The features of real embeddings are those of the specification. -/
theorem featH_at (x : FVec Ideal S128x576x768 .f32) (e : Fin 128 → Fin 576 → Fin 768 → ℝ)
    (hx : ∀ b p d, x (ix3 b p d) = ((e b p d : ℝ) : EReal)) (b : Fin 128) (p : Fin 576) (d : Fin 770) :
    featH x (ix3 b p d) = ((feats (e b) p d : ℝ) : EReal) := by
  pointwise [featH]
  unfold feats
  split
  · exact coordH_at p _
  · exact hx b p _

/-- The sum over one block of the grid. -/
theorem sum_block (y : Vec Ideal S128x3x8x3x8x770 .f32) (b : Fin 128) (i j : Fin 3) (d : Fin 770) :
    Ideal.hostReduceAdd reducesTo_S128x3x8x3x8x770_S128x3x3x770_d2_4 y 0 (ix4 b i j d)
      = ∑ uv : Fin 8 × Fin 8, y (ix6 b i uv.1 j uv.2 d) := by
  unfold Ideal.hostReduceAdd
  rw [zero_add]
  refine Finset.sum_bij' (fun t _ => ((t 2, t 4) : Fin 8 × Fin 8)) (fun uv _ => ix6 b i uv.1 j uv.2 d) ?_ ?_ ?_ ?_ ?_
  · intro _ _; exact Finset.mem_univ _
  · intro uv _
    refine Finset.mem_filter.mpr ⟨Finset.mem_univ _, ?_⟩
    funext a; fin_cases a <;> rfl
  · intro t ht
    have h := (Finset.mem_filter.mp ht).2
    have h0 := congrFun h 0
    have h1 := congrFun h 1
    have h2 := congrFun h 2
    have h3 := congrFun h 3
    funext a; fin_cases a
    · exact h0.symm
    · exact h1.symm
    · rfl
    · exact h2.symm
    · rfl
    · exact h3.symm
  · intro uv _; rfl
  · intro t ht
    have h := (Finset.mem_filter.mp ht).2
    have h0 := congrFun h 0
    have h1 := congrFun h 1
    have h2 := congrFun h 2
    have h3 := congrFun h 3
    congr 1
    funext a; fin_cases a
    · exact h0
    · exact h1
    · rfl
    · exact h2
    · rfl
    · exact h3

/-- The sum over a block's rows and columns is the sum over the pixels the indicator picks. -/
theorem sum_ind (X : Fin 576 → ℝ) (k : Fin 9) :
    ∑ uv : Fin 8 × Fin 8, X ⟨(k.val / 3 * 8 + uv.1.val) * 24 + (k.val % 3 * 8 + uv.2.val), by omega⟩ = ∑ p, ind k p * X p := by
  have : ∀ p, ind k p * X p = if blk p = k then X p else 0 := by
    intro p; unfold ind; split <;> simp
  simp only [this]
  rw [← Finset.sum_filter]
  refine Finset.sum_bij' (fun uv _ => ⟨(k.val / 3 * 8 + uv.1.val) * 24 + (k.val % 3 * 8 + uv.2.val), by omega⟩)
    (fun p _ => (⟨p.val / 24 % 8, by omega⟩, ⟨p.val % 24 % 8, by omega⟩)) ?_ ?_ ?_ ?_ ?_
  · intro uv _
    refine Finset.mem_filter.mpr ⟨Finset.mem_univ _, ?_⟩
    apply Fin.ext; simp only [blk]; omega
  · intro _ _; exact Finset.mem_univ _
  · intro uv _
    apply Prod.ext <;> apply Fin.ext <;> simp only <;> omega
  · intro p hp
    have h := congrArg Fin.val (Finset.mem_filter.mp hp).2
    simp only [blk] at h
    apply Fin.ext; simp only; omega
  · intro _ _; rfl

/-- The initial centroids of real features are the blocks' means. -/
theorem initH_at (x : FVec Ideal S128x576x770 .f32) (X : Fin 128 → Fin 576 → Fin 770 → ℝ)
    (hx : ∀ b p d, x (ix3 b p d) = ((X b p d : ℝ) : EReal)) (b : Fin 128) (k : Fin 9) (d : Fin 770) :
    initH x (ix3 b k d) = ((init (X b) k d : ℝ) : EReal) := by
  pointwise [initH]
  rw [sum_block]
  have : ∀ uv : Fin 8 × Fin 8, shapeCast S128x3x8x3x8x770 x shapeCasts_S128x576x770_S128x3x8x3x8x770
      (ix6 b ⟨k.val / 3, by omega⟩ uv.1 ⟨k.val % 3, by omega⟩ uv.2 d)
      = ((X b ⟨(k.val / 3 * 8 + uv.1.val) * 24 + (k.val % 3 * 8 + uv.2.val), by omega⟩ d : ℝ) : EReal) := by
    intro uv
    rw [← hx]
    pointwise
    refine congrArg (fun q => x (ix3 b q d)) (Fin.ext ?_)
    simp only; omega
  simp only [this]
  rw [← coe_sum, sum_ind (fun p => X b p d) k, ofBits_sixtyfour, div_coe_coe _ _ (by norm_num)]
  unfold init
  congr 1
  ring

/-- The assignment to real centroids of real features. -/
theorem softH_at (x : FVec Ideal S128x576x770 .f32) (X : Fin 128 → Fin 576 → Fin 770 → ℝ)
    (hx : ∀ b p d, x (ix3 b p d) = ((X b p d : ℝ) : EReal)) (c : FVec Ideal S128x9x770 .f32) (C : Fin 128 → Fin 9 → Fin 770 → ℝ)
    (hc : ∀ b k d, c (ix3 b k d) = ((C b k d : ℝ) : EReal)) (b : Fin 128) (p : Fin 576) (k : Fin 9) :
    softH x c (ix3 b p k) = ((assign (X b) (C b) k p : ℝ) : EReal) := by
  have hd : ∀ k, distH x c (ix3 b p k) = ((negDist (X b) (C b) k p : ℝ) : EReal) := by
    intro k
    rw [distH_at]
    simp only [hx, hc, ← EReal.coe_mul, ← coe_sum, ofBits_two]
    rw [← EReal.coe_sub, ← EReal.coe_add, ← EReal.coe_neg]
    rfl
  obtain ⟨M, hM⟩ := exists_fold_max (fun k => negDist (X b) (C b) k p)
  have he : ∀ k, expH (distH x c) (ix3 b p k) = ((Real.exp (negDist (X b) (C b) k p - M) : ℝ) : EReal) := by
    intro k
    rw [expH_at]
    simp only [hd, ofBits_ninf, hM]
    rw [max_eq_right bot_le, ← EReal.coe_sub, Ideal.exp_coe]
  unfold softH
  rw [normH_at]
  simp only [he, ← coe_sum]
  rw [div_coe_coe _ _ (Finset.sum_pos (fun _ _ => Real.exp_pos _) Finset.univ_nonempty).ne', ← mul_one_div]
  exact congrArg _ (soft_sub (negDist (X b) (C b)) (fun _ => M) k p)

/-- The centroids of a real assignment of real features. -/
theorem updH_coe (x : FVec Ideal S128x576x770 .f32) (X : Fin 128 → Fin 576 → Fin 770 → ℝ)
    (hx : ∀ b p d, x (ix3 b p d) = ((X b p d : ℝ) : EReal)) (a : FVec Ideal S128x576x9 .f32) (A : Fin 128 → Fin 9 → Fin 576 → ℝ)
    (hA : ∀ b p k, a (ix3 b p k) = ((A b k p : ℝ) : EReal)) (hpos : ∀ b k p, 0 < A b k p) (b : Fin 128) (k : Fin 9) (d : Fin 770) :
    updH a x (ix3 b k d) = ((update eps (X b) (A b) k d : ℝ) : EReal) := by
  rw [updH_at]
  simp only [hx, hA, ← EReal.coe_mul, ← coe_sum, ofBits_eps, ← EReal.coe_add]
  rw [div_coe_coe _ _ (add_pos_of_nonneg_of_pos (Finset.sum_nonneg fun p _ => (hpos b k p).le) eps_pos).ne']
  rfl

end Cert.ReferenceIdeal.Read

end
-- ==== Proof.RValue.lean ====
module

public import proofs.«01_k».proof.Proof.RHost

@[expose] public section

set_option maxRecDepth 16384

noncomputable section

/-! The reference's run: its result is the assignment after the loop's nine centroid updates. -/

namespace Cert.ReferenceIdeal.Read

open Cert.ReferenceIdeal Cert.ReferenceIdeal.Gen Cert.ReferenceIdeal.Value Idealize.ShloMosaic Idealize.ShloMosaic.TcCoe
open Idealize.ShloMosaic.Tactic Idealize.ShloMosaic.StableHlo Idealize.SL.Sem Cert.Soft

variable (m : (ℓ : Loc nD τ sig) → Buf (Elt Ideal) ℓ)

/-- The features the reference builds on device `c`. -/
abbrev featC (c : Dev nD) : FVec Ideal S128x576x770 .f32 := featH (m ((c.tc : Thread nD τ).loc main_arg0))

set_option maxHeartbeats 4000000 in
/-- The features before the loop. -/
theorem entry_v15 (c : Dev nD) : entryContents preI m c (Proc.devRef .tc main_v15) = featC m c := by
  simp only [entryContents, preI, afterL_cons, afterL_nil]
  after_results
  rfl

set_option maxHeartbeats 4000000 in
/-- The loop carries the features. -/
theorem entry_v21_0 (c : Dev nD) : entryContents preI m c (Proc.devRef .tc main_v21_0) = featC m c := by
  simp only [entryContents, preI, afterL_cons, afterL_nil]
  after_results
  rfl

set_option maxHeartbeats 4000000 in
/-- The loop starts from the block means. -/
theorem entry_v21_2 (c : Dev nD) : entryContents preI m c (Proc.devRef .tc main_v21_2) = initH (featC m c) := by
  simp only [entryContents, preI, afterL_cons, afterL_nil]
  after_results
  rfl

/-- The features the loop carries, as contents `V` hold them. -/
abbrev fOf (V : Valuation τ sig (Elt Ideal)) : FVec Ideal S128x576x770 .f32 := V (Proc.devRef .tc main_v21_0)
/-- The features the operations after the loop read, as contents `V` hold them. -/
abbrev gOf (V : Valuation τ sig (Elt Ideal)) : FVec Ideal S128x576x770 .f32 := V (Proc.devRef .tc main_v15)
/-- The centroids, as contents `V` hold them. -/
abbrev cOf (V : Valuation τ sig (Elt Ideal)) : FVec Ideal S128x9x770 .f32 := V (Proc.devRef .tc main_v21_2)
/-- The result, as contents `V` hold it. -/
abbrev oOf (V : Valuation τ sig (Elt Ideal)) : FVec Ideal S128x576x9 .f32 := V (Proc.devRef .tc main_v46)

/-- One trip's centroids. -/
theorem step_cents (V : Valuation τ sig (Elt Ideal)) : cOf (STEP V) = updH (softH (fOf V) (cOf V)) (fOf V) :=
  STEP_main_v21_2 V

/-- One trip leaves the features. -/
theorem step_feats (V : Valuation τ sig (Elt Ideal)) : fOf (STEP V) = fOf V := STEP_main_v21_0 V

set_option maxHeartbeats 4000000 in
/-- The operations after the loop, from any contents. -/
theorem post_v46 (V : Valuation τ sig (Elt Ideal)) : oOf (afterL postI V) = softH (gOf V) (cOf V) := by
  simp only [postI, afterL_cons, afterL_nil, oOf]
  after_results
  rfl

/-- A buffer neither the condition nor the body writes is through the trips as it was. -/
theorem atK_keep (r : Ref sig .tc) (hc : r ∉ condOps_W) (hb : r ∉ while0Ops0_W) (c : Dev nD) (k : ℕ) :
    atK m k c (Proc.devRef .tc r) = entryContents preI m c (Proc.devRef .tc r) := by
  induction k with
  | zero => rfl
  | succ k ih =>
    refine Eq.trans ?_ ih
    show afterL bodyI (after condOps (atK m k c)) (Proc.devRef .tc r) = _
    rw [bodyI, afterL_cons, afterL_nil]
    exact (after_of_writes_sub while0Ops0 _ while0Ops0_writes hb).trans (after_of_writes_sub condOps _ condOps_writes hc)

/-- A buffer the condition does not write is through it as it was. -/
theorem cond_keep (r : Ref sig .tc) (hc : r ∉ condOps_W) (V : Valuation τ sig (Elt Ideal)) :
    after condOps V (Proc.devRef .tc r) = V (Proc.devRef .tc r) := after_of_writes_sub condOps _ condOps_writes hc

set_option maxHeartbeats 4000000 in
/-- The argument ends as it began. -/
theorem final_arg0 (c : Dev nD) : finalContents condOps preI bodyI postI 9 m c (Proc.devRef .tc main_arg0)
    = m ((c.tc : Thread nD τ).loc main_arg0) := by
  have h : ∀ V : Valuation τ sig (Elt Ideal), afterL postI V (Proc.devRef .tc main_arg0) = V (Proc.devRef .tc main_arg0) := by
    intro V
    simp only [postI, afterL_cons, afterL_nil]
    after_results
  refine (h _).trans ((cond_keep main_arg0 (by decide +kernel) _).trans ((atK_keep m main_arg0 (by decide +kernel) (by decide +kernel) c 9).trans ?_))
  simp only [entryContents, preI, afterL_cons, afterL_nil]
  after_results

/-- Before each trip the loop carries the features, and the centroids of as many updates. -/
theorem iter_at (c : Dev nD) (e : Fin 128 → Fin 576 → Fin 768 → ℝ)
    (he : ∀ b p d, (m ((c.tc : Thread nD τ).loc main_arg0) : FVec Ideal S128x576x768 .f32) (ix3 b p d) = ((e b p d : ℝ) : EReal)) (n : ℕ) :
    fOf (STEP^[n] (entryContents preI m c)) = featC m c ∧
    ∀ b k d, cOf (STEP^[n] (entryContents preI m c)) (ix3 b k d)
      = ((cents eps (feats (e b)) (init (feats (e b))) n k d : ℝ) : EReal) := by
  have hf : ∀ b p d, featC m c (ix3 b p d) = ((feats (e b) p d : ℝ) : EReal) := featH_at _ e he
  induction n with
  | zero =>
    refine ⟨entry_v21_0 m c, fun b k d => ?_⟩
    exact (congrFun (entry_v21_2 m c) _).trans (initH_at _ (fun b => feats (e b)) hf b k d)
  | succ n ih =>
    rw [Function.iterate_succ_apply']
    refine ⟨(step_feats _).trans ih.1, fun b k d => ?_⟩
    rw [step_cents, ih.1]
    exact updH_coe _ (fun b => feats (e b)) hf _ (fun b => assign (feats (e b)) (cents eps (feats (e b)) (init (feats (e b))) n))
      (fun b p k => softH_at _ (fun b => feats (e b)) hf _ _ ih.2 b p k) (fun b k p => soft_pos _ k p) b k d

/-- The reference's result, where the embeddings are real: the assignment after nine updates. -/
theorem final_v46 (c : Dev nD) (e : Fin 128 → Fin 576 → Fin 768 → ℝ)
    (he : ∀ b p d, (m ((c.tc : Thread nD τ).loc main_arg0) : FVec Ideal S128x576x768 .f32) (ix3 b p d) = ((e b p d : ℝ) : EReal))
    (b : Fin 128) (p : Fin 576) (k : Fin 9) :
    oOf (finalContents condOps preI bodyI postI 9 m c) (ix3 b p k) = ((result (e b) 9 p k : ℝ) : EReal) := by
  have hf : ∀ b p d, featC m c (ix3 b p d) = ((feats (e b) p d : ℝ) : EReal) := featH_at _ e he
  rw [finalContents, post_v46]
  have hg : gOf (after condOps (atTrip condOps bodyI (entryContents preI m) 9 c)) = featC m c :=
    (cond_keep main_v15 (by decide +kernel) _).trans ((atK_keep m main_v15 (by decide +kernel) (by decide +kernel) c 9).trans (entry_v15 m c))
  have hc : cOf (after condOps (atTrip condOps bodyI (entryContents preI m) 9 c)) = cOf (STEP^[9] (entryContents preI m c)) :=
    (cond_keep main_v21_2 (by decide +kernel) _).trans (atK_agree m c 9 main_v21_2 (by decide))
  rw [hg, hc]
  exact softH_at _ (fun b => feats (e b)) hf _ _ (iter_at m c e he 9).2 b p k

end Cert.ReferenceIdeal.Read

end
-- ==== Proof.Apart.lean ====
module

public import proofs.«01_k».proof.Proof.Spec

@[expose] public section

noncomputable section

/-! An image on which the assignment after nine centroid updates is not the one after ten. If two successive
assignments agreed, so would the two before them, down to the first; and the first two do not agree. -/

namespace Cert.Soft

open Finset

section Back

variable {P K D : Type} [Fintype P] [Fintype K] [Nonempty K] [Fintype D]

omit [Fintype P] in
/-- Equal softmaxes come of scores that differ by a number of the pixel alone. -/
theorem soft_inj (s s' : K → P → ℝ) (h : soft s = soft s') (k l : K) (p : P) : s k p - s' k p = s l p - s' l p := by
  have hZ : ∀ s : K → P → ℝ, 0 < ∑ k', Real.exp (s k' p) := fun s => Finset.sum_pos (fun _ _ => Real.exp_pos _) Finset.univ_nonempty
  have hlog : ∀ (s : K → P → ℝ) (k : K), Real.log (soft s k p) = s k p - Real.log (∑ k', Real.exp (s k' p)) := by
    intro s k
    unfold soft
    rw [Real.log_div (Real.exp_pos _).ne' (hZ s).ne', Real.log_exp]
  have h1 := hlog s k
  have h2 := hlog s' k
  have h3 := hlog s l
  have h4 := hlog s' l
  rw [h] at h1 h3
  linarith

omit [Fintype P] [Fintype K] [Nonempty K] in
/-- Minus the squared distance, as a sum of squares. -/
theorem negDist_sq (X : P → D → ℝ) (c : K → D → ℝ) (k : K) (p : P) :
    negDist X c k p = -∑ d, (X p d - c k d) ^ 2 := by
  unfold negDist
  congr 1
  rw [Finset.mul_sum, ← Finset.sum_sub_distrib, ← Finset.sum_add_distrib]
  exact Finset.sum_congr rfl fun d _ => by ring

/-- Where one pixel is at the origin and all centroids are combinations of the pixels, centroids with the same
    assignment differ by one vector `u` for all clusters, and its product with every centroid is the same. -/
theorem same_shift (X : P → D → ℝ) (o : P) (ho : ∀ d, X o d = 0) (c c' : K → D → ℝ) (y y' : K → P → ℝ)
    (hc : ∀ k d, c k d = ∑ p, y k p * X p d) (hc' : ∀ k d, c' k d = ∑ p, y' k p * X p d)
    (h : assign X c = assign X c') (k₀ : K) :
    (∀ k d, c k d - c' k d = c k₀ d - c' k₀ d) ∧
    ∀ k, ∑ d, c k d * (c k₀ d - c' k₀ d) = ∑ d, c k₀ d * (c k₀ d - c' k₀ d) := by
  have hneg : ∀ (c : K → D → ℝ) k p, negDist X c k p = 2 * (∑ d, X p d * c k d) - (∑ d, c k d * c k d) - ∑ d, X p d * X p d := by
    intro c k p; unfold negDist; ring
  have hz : ∀ v : D → ℝ, ∑ d, X o d * v d = 0 := fun v => Finset.sum_eq_zero fun d _ => by rw [ho, zero_mul]
  have hg : ∀ k, (∑ d, c k d * c k d) - (∑ d, c' k d * c' k d) = (∑ d, c k₀ d * c k₀ d) - ∑ d, c' k₀ d * c' k₀ d := by
    intro k
    have := soft_inj _ _ h k k₀ o
    simp only [hneg, hz] at this
    linarith
  have hp : ∀ k p, ∑ d, X p d * ((c k d - c' k d) - (c k₀ d - c' k₀ d)) = 0 := by
    intro k p
    have h1 := soft_inj _ _ h k k₀ p
    have h2 := hg k
    simp only [hneg] at h1
    simp only [mul_sub, Finset.sum_sub_distrib]
    linarith
  have hu : ∀ k d, (c k d - c' k d) - (c k₀ d - c' k₀ d) = 0 := by
    intro k
    have hs : ∑ d, ((c k d - c' k d) - (c k₀ d - c' k₀ d)) * ((c k d - c' k d) - (c k₀ d - c' k₀ d)) = 0 := by
      have he : ∀ d, (c k d - c' k d) - (c k₀ d - c' k₀ d) = ∑ p, ((y k p - y' k p) - (y k₀ p - y' k₀ p)) * X p d := by
        intro d
        simp only [hc, hc', sub_mul, Finset.sum_sub_distrib]
      calc _ = ∑ d, ∑ p, ((y k p - y' k p) - (y k₀ p - y' k₀ p)) * (X p d * ((c k d - c' k d) - (c k₀ d - c' k₀ d))) := by
              refine Finset.sum_congr rfl fun d _ => ?_
              conv_lhs => enter [1]; rw [he d]
              rw [Finset.sum_mul]
              exact Finset.sum_congr rfl fun p _ => mul_assoc _ _ _
        _ = 0 := by
              rw [Finset.sum_comm]
              refine Finset.sum_eq_zero fun p _ => ?_
              rw [← Finset.mul_sum, hp, mul_zero]
    intro d
    have := (Finset.sum_eq_zero_iff_of_nonneg (fun d _ => mul_self_nonneg _)).mp hs d (Finset.mem_univ d)
    exact mul_self_eq_zero.mp this
  have hv : ∀ k d, c k d - c' k d = c k₀ d - c' k₀ d := fun k d => sub_eq_zero.mp (hu k d)
  refine ⟨hv, fun k => ?_⟩
  have e : ∀ k, ∑ d, c k d * (c k₀ d - c' k₀ d)
      = ((∑ d, c k d * c k d) - (∑ d, c' k d * c' k d) + ∑ d, (c k₀ d - c' k₀ d) * (c k₀ d - c' k₀ d)) / 2 := by
    intro k
    rw [← Finset.sum_sub_distrib, ← Finset.sum_add_distrib, Finset.sum_div]
    refine Finset.sum_congr rfl fun d _ => ?_
    have : c' k d = c k d - (c k₀ d - c' k₀ d) := by rw [← hv k d]; ring
    rw [this]; ring
  rw [e, e, hg k]

/-- Updated centroids of two assignments that assign alike are the same. -/
theorem update_inj (ε : ℝ) (X : P → D → ℝ) (o : P) (ho : ∀ d, X o d = 0) (a a' : K → P → ℝ)
    (ha : ∀ p, ∑ k, a k p = 1) (ha' : ∀ p, ∑ k, a' k p = 1) (hV : ∀ k, 0 < ∑ p, a k p + ε) (hV' : ∀ k, 0 < ∑ p, a' k p + ε)
    (h : assign X (update ε X a) = assign X (update ε X a')) : update ε X a = update ε X a' := by
  obtain ⟨k₀⟩ := ‹Nonempty K›
  obtain ⟨hv, hk⟩ := same_shift X o ho (update ε X a) (update ε X a') (fun k p => a k p / (∑ p, a k p + ε)) (fun k p => a' k p / (∑ p, a' k p + ε))
    (fun k d => by unfold update; rw [Finset.sum_div]; exact Finset.sum_congr rfl fun p _ => by ring)
    (fun k d => by unfold update; rw [Finset.sum_div]; exact Finset.sum_congr rfl fun p _ => by ring) h k₀
  set u : D → ℝ := fun d => update ε X a k₀ d - update ε X a' k₀ d with hu
  have hsum : ∀ a : K → P → ℝ, (∀ p, ∑ k, a k p = 1) → (∀ k, 0 < ∑ p, a k p + ε) →
      ∀ d, ∑ k, (∑ p, a k p + ε) * update ε X a k d = ∑ p, X p d := by
    intro a ha hV d
    have : ∀ k, (∑ p, a k p + ε) * update ε X a k d = ∑ p, a k p * X p d := by
      intro k; unfold update; rw [mul_div_cancel₀ _ (hV k).ne']
    simp only [this]
    rw [Finset.sum_comm]
    refine Finset.sum_congr rfl fun p _ => ?_
    rw [← Finset.sum_mul, ha, one_mul]
  have htot : ∀ a : K → P → ℝ, (∀ p, ∑ k, a k p = 1) → ∑ k, (∑ p, a k p + ε) = (Fintype.card P : ℝ) + Fintype.card K * ε := by
    intro a ha
    rw [Finset.sum_add_distrib, Finset.sum_comm]
    simp [ha]
  have hd : ∀ d, ∑ k, ((∑ p, a' k p + ε) - (∑ p, a k p + ε)) * update ε X a k d = (∑ k, (∑ p, a' k p + ε)) * u d := by
    intro d
    have h1 := hsum a ha hV d
    have h2 := hsum a' ha' hV' d
    have h3 : ∀ k, update ε X a' k d = update ε X a k d - u d := by
      intro k; have := hv k d; simp only [hu]; linarith
    simp only [h3, mul_sub, Finset.sum_sub_distrib, ← Finset.sum_mul] at h2
    simp only [sub_mul, Finset.sum_sub_distrib]
    linarith
  have hz : (∑ k, (∑ p, a' k p + ε)) * ∑ d, u d * u d = 0 := by
    have e1 : (∑ k, (∑ p, a' k p + ε)) * ∑ d, u d * u d
        = ∑ k, ((∑ p, a' k p + ε) - (∑ p, a k p + ε)) * ∑ d, update ε X a k d * u d := by
      rw [Finset.mul_sum]
      simp only [Finset.mul_sum]
      rw [Finset.sum_comm]
      refine Finset.sum_congr rfl fun d _ => ?_
      rw [← mul_assoc, ← hd d, Finset.sum_mul]
      exact Finset.sum_congr rfl fun k _ => mul_assoc _ _ _
    have hk' : ∀ k, ∑ d, update ε X a k d * u d = ∑ d, update ε X a k₀ d * u d := hk
    rw [e1, Finset.sum_congr rfl fun k _ => congrArg _ (hk' k)]
    rw [← Finset.sum_mul, Finset.sum_sub_distrib, htot a ha, htot a' ha', sub_self, zero_mul]
  have hpos : 0 < ∑ k, (∑ p, a' k p + ε) := Finset.sum_pos (fun k _ => hV' k) ⟨k₀, Finset.mem_univ _⟩
  have hs := (mul_eq_zero.mp hz).resolve_left hpos.ne'
  have hu0 : ∀ d, u d = 0 := fun d =>
    mul_self_eq_zero.mp ((Finset.sum_eq_zero_iff_of_nonneg (fun d _ => mul_self_nonneg _)).mp hs d (Finset.mem_univ d))
  funext k d
  have h1 := hv k d
  have h2 := hu0 d
  simp only [hu] at h2
  linarith

/-- Assignments whose scaled columns agree away from the origin pixel, and that have at every cluster a pixel that is
    mostly its own, are the same. -/
theorem assign_inj (ε : ℝ) (o : P) (a a' : K → P → ℝ)
    (ha : ∀ p, ∑ k, a k p = 1) (ha' : ∀ p, ∑ k, a' k p = 1) (h0 : ∀ k p, 0 ≤ a k p)
    (hV : ∀ k, 0 < ∑ p, a k p + ε) (hV' : ∀ k, 0 < ∑ p, a' k p + ε)
    (hown : ∀ k, ∃ p, p ≠ o ∧ 1 / 2 < a k p)
    (h : ∀ k p, p ≠ o → a k p / (∑ p, a k p + ε) = a' k p / (∑ p, a' k p + ε)) : a = a' := by
  classical
  set L : K → ℝ := fun k => (∑ p, a' k p + ε) / (∑ p, a k p + ε) with hL
  have hLa : ∀ k p, p ≠ o → a' k p = L k * a k p := by
    intro k p hp
    have := h k p hp
    rw [div_eq_div_iff (hV k).ne' (hV' k).ne'] at this
    simp only [hL]
    rw [div_mul_eq_mul_div, eq_div_iff (hV k).ne']
    linarith
  obtain ⟨k, _, hk⟩ := Finset.exists_max_image Finset.univ (fun k => |L k - 1|) Finset.univ_nonempty
  have hk1 : |L k - 1| = 0 := by
    obtain ⟨p, hp, hhalf⟩ := hown k
    have hs : ∑ l, (L l - 1) * a l p = 0 := by
      simp only [sub_mul, one_mul, Finset.sum_sub_distrib, ← hLa _ p hp, ha, ha', sub_self]
    rw [← Finset.add_sum_erase _ _ (Finset.mem_univ k)] at hs
    have h1 : |(L k - 1) * a k p| ≤ |L k - 1| * (1 - a k p) := by
      have e : (L k - 1) * a k p = -∑ l ∈ Finset.univ.erase k, (L l - 1) * a l p := by linarith
      rw [e, abs_neg]
      refine (Finset.abs_sum_le_sum_abs _ _).trans ?_
      have e2 : 1 - a k p = ∑ l ∈ Finset.univ.erase k, a l p := by
        rw [← ha p, ← Finset.add_sum_erase _ _ (Finset.mem_univ k)]; ring
      rw [e2, Finset.mul_sum]
      refine Finset.sum_le_sum fun l _ => ?_
      rw [abs_mul, abs_of_nonneg (h0 l p)]
      exact mul_le_mul_of_nonneg_right (hk l (Finset.mem_univ l)) (h0 l p)
    rw [abs_mul, abs_of_nonneg (h0 k p)] at h1
    have := abs_nonneg (L k - 1)
    nlinarith
  have hL1 : ∀ l, L l = 1 := by
    intro l
    have := hk l (Finset.mem_univ l)
    rw [hk1] at this
    exact sub_eq_zero.mp (abs_eq_zero.mp (le_antisymm this (abs_nonneg _)))
  have hne : ∀ l p, p ≠ o → a l p = a' l p := by
    intro l p hp; rw [hLa l p hp, hL1, one_mul]
  funext l p
  by_cases hp : p = o
  · subst hp
    have e := hL1 l
    simp only [hL] at e
    rw [div_eq_one_iff_eq (hV l).ne'] at e
    rw [← Finset.add_sum_erase _ _ (Finset.mem_univ p), ← Finset.add_sum_erase _ (a l) (Finset.mem_univ p)] at e
    have : ∑ q ∈ Finset.univ.erase p, a' l q = ∑ q ∈ Finset.univ.erase p, a l q :=
      Finset.sum_congr rfl fun q hq => (hne l q (Finset.ne_of_mem_erase hq)).symm
    linarith
  · exact hne l p hp

omit [Fintype K] [Nonempty K] in
/-- The squared distance to a weighted mean is at most the mean of the squared distances. -/
theorem sq_mean_le (X : P → D → ℝ) (y : P → ℝ) (h0 : ∀ p, 0 ≤ y p) (h1 : ∑ p, y p = 1) (c : D → ℝ)
    (hc : ∀ d, c d = ∑ p, y p * X p d) (p : P) :
    ∑ d, (X p d - c d) ^ 2 ≤ ∑ q, y q * ∑ d, (X p d - X q d) ^ 2 := by
  simp only [Finset.mul_sum]
  rw [Finset.sum_comm]
  refine Finset.sum_le_sum fun d _ => ?_
  have h2 : 0 ≤ ∑ q, y q * (X q d - c d) ^ 2 := Finset.sum_nonneg fun q _ => mul_nonneg (h0 q) (sq_nonneg _)
  have h3 : ∑ q, y q * (X p d - X q d) ^ 2 = ∑ q, y q * (X q d - c d) ^ 2 + (X p d - c d) ^ 2 := by
    have e : ∀ q, y q * (X p d - X q d) ^ 2
        = y q * (X q d - c d) ^ 2 + (y q * ((X p d) ^ 2 - (c d) ^ 2) + (2 * (c d - X p d)) * (y q * X q d)) := by
      intro q; ring
    simp only [e, Finset.sum_add_distrib, ← Finset.sum_mul, ← Finset.mul_sum, h1, ← hc]
    ring
  linarith

end Back

/-! ## The image -/

/-- The embedding: one direction for each pixel but the first, and one that tells the blocks apart. -/
def spread (p : Fin 576) (d : Fin 768) : ℝ :=
  if d.val = 576 then 128 * ((blk p).val : ℝ) else if d.val = p.val ∧ p.val ≠ 0 then 1 else 0

/-- The features of that embedding. -/
abbrev XS : Fin 576 → Fin 770 → ℝ := feats spread

/-- The first pixel is at the origin. -/
theorem XS_zero (d : Fin 770) : XS 0 d = 0 := by
  simp only [XS, feats, spread, coord, blk]
  split
  · split <;> simp
  · split
    · simp
    · rw [if_neg (by simp)]

/-- The direction that is pixel `p`'s alone. -/
theorem XS_own (p q : Fin 576) (hp : p ≠ 0) : XS q ⟨2 + p.val, by omega⟩ = if q = p then 1 else 0 := by
  have hp' : p.val ≠ 0 := fun h => hp (Fin.ext h)
  have := p.isLt
  simp only [XS, feats, spread]
  rw [dif_neg (by omega), if_neg (by omega)]
  by_cases h : q = p
  · subst h; rw [if_pos ⟨by omega, hp'⟩, if_pos rfl]
  · rw [if_neg (fun h' => h (Fin.ext (by omega))), if_neg h]

/-- The direction that tells the blocks apart. -/
theorem XS_blk (q : Fin 576) : XS q ⟨578, by omega⟩ = 128 * ((blk q).val : ℝ) := by
  simp only [XS, feats, spread]
  simp

/-- Two pixels' scaled positions differ by at most 69 along each axis. -/
theorem coord_sq (p q : Fin 576) (a : Fin 2) : (coord p a - coord q a) ^ 2 ≤ 4761 := by
  have h : ∀ m n : ℕ, m < 24 → n < 24 → (((m : ℕ) : ℝ) * 3 - ((n : ℕ) : ℝ) * 3) ^ 2 ≤ 4761 := by
    intro m n hm hn
    have hm' : (m : ℝ) ≤ 23 := by exact_mod_cast Nat.le_of_lt_succ hm
    have hn' : (n : ℝ) ≤ 23 := by exact_mod_cast Nat.le_of_lt_succ hn
    have hm0 : (0 : ℝ) ≤ m := Nat.cast_nonneg m
    have hn0 : (0 : ℝ) ≤ n := Nat.cast_nonneg n
    have := abs_le.mpr (⟨by linarith, by linarith⟩ : -69 ≤ (m : ℝ) * 3 - n * 3 ∧ (m : ℝ) * 3 - n * 3 ≤ 69)
    have h2 := sq_le_sq' (by linarith [(abs_le.mp this).1] : -69 ≤ (m : ℝ) * 3 - n * 3) (abs_le.mp this).2
    linarith
  unfold coord
  split
  · exact h _ _ (Nat.mod_lt _ (by decide)) (Nat.mod_lt _ (by decide))
  · exact h _ _ (by omega) (by omega)

/-- How far apart two pixels are at most. -/
theorem dist_le (p q : Fin 576) :
    ∑ d, (XS p d - XS q d) ^ 2 ≤ 9524 + 16384 * (((blk p).val : ℝ) - ((blk q).val : ℝ)) ^ 2 := by
  have h := Fin.sum_univ_add (a := 2) (b := 768) (fun d : Fin (2 + 768) => (XS p d - XS q d) ^ 2)
  refine h.le.trans ?_
  have h1 : ∑ a : Fin 2, (XS p (Fin.castAdd 768 a) - XS q (Fin.castAdd 768 a)) ^ 2 ≤ ∑ _a : Fin 2, (4761 : ℝ) := by
    refine Finset.sum_le_sum fun a _ => ?_
    have e : ∀ p, XS p (Fin.castAdd 768 a) = coord p a := by
      intro p
      simp only [XS, feats]
      rw [dif_pos (show (Fin.castAdd 768 a).val < 2 from a.isLt)]
      rfl
    rw [e, e]; exact coord_sq p q a
  have h2 : ∑ d : Fin 768, (XS p (Fin.natAdd 2 d) - XS q (Fin.natAdd 2 d)) ^ 2
      ≤ ∑ d : Fin 768, ((if d = (⟨576, by omega⟩ : Fin 768) then 16384 * (((blk p).val : ℝ) - ((blk q).val : ℝ)) ^ 2 else 0)
        + ((if d = (⟨p.val, by omega⟩ : Fin 768) then (1 : ℝ) else 0) + if d = (⟨q.val, by omega⟩ : Fin 768) then (1 : ℝ) else 0)) := by
    refine Finset.sum_le_sum fun d _ => ?_
    have e : ∀ p, XS p (Fin.natAdd 2 d) = spread p d := by
      intro p
      have hd : (Fin.natAdd 2 d : Fin (2 + 768)).val = 2 + d.val := rfl
      simp only [XS, feats]
      rw [dif_neg (by omega)]
      congr 1
      exact Fin.ext (by show 2 + d.val - 2 = d.val; omega)
    rw [e, e]
    unfold spread
    by_cases hd : d.val = 576
    · rw [if_pos hd, if_pos hd, if_pos (Fin.ext hd)]
      have : ∀ c : Prop, ∀ [Decidable c], (0 : ℝ) ≤ if c then 1 else 0 := by intro c _; split <;> norm_num
      have a1 := this (d = (⟨p.val, by omega⟩ : Fin 768))
      have a2 := this (d = (⟨q.val, by omega⟩ : Fin 768))
      nlinarith
    · rw [if_neg hd, if_neg hd, if_neg (fun h => hd (congrArg Fin.val h)), zero_add]
      have hb : ∀ p : Fin 576, (if d.val = p.val ∧ p.val ≠ 0 then (1 : ℝ) else 0) ≤ (if d = (⟨p.val, by omega⟩ : Fin 768) then (1 : ℝ) else 0)
          ∧ (0 : ℝ) ≤ (if d.val = p.val ∧ p.val ≠ 0 then (1 : ℝ) else 0)
          ∧ (if d.val = p.val ∧ p.val ≠ 0 then (1 : ℝ) else 0) ^ 2 = (if d.val = p.val ∧ p.val ≠ 0 then (1 : ℝ) else 0) := by
        intro p
        by_cases h : d.val = p.val ∧ p.val ≠ 0
        · rw [if_pos h, if_pos (Fin.ext h.1)]; norm_num
        · rw [if_neg h]; refine ⟨?_, le_refl _, by norm_num⟩
          split <;> norm_num
      obtain ⟨b1, b2, b3⟩ := hb p
      obtain ⟨c1, c2, c3⟩ := hb q
      nlinarith [mul_nonneg b2 c2]
  have h3 : ∑ d : Fin 768, ((if d = (⟨576, by omega⟩ : Fin 768) then 16384 * (((blk p).val : ℝ) - ((blk q).val : ℝ)) ^ 2 else 0)
        + ((if d = (⟨p.val, by omega⟩ : Fin 768) then (1 : ℝ) else 0) + if d = (⟨q.val, by omega⟩ : Fin 768) then (1 : ℝ) else 0))
      = 16384 * (((blk p).val : ℝ) - ((blk q).val : ℝ)) ^ 2 + 2 := by
    simp only [Finset.sum_add_distrib, Finset.sum_ite_eq', Finset.mem_univ, if_true]
    norm_num
  rw [h3] at h2
  have h4 : ∑ _a : Fin 2, (4761 : ℝ) = 9522 := by norm_num
  rw [h4] at h1
  linarith

/-- Weights of the pixels, one set to a cluster, that sum to one and lie almost all in the cluster's block. -/
structure Near (y : Fin 9 → Fin 576 → ℝ) : Prop where
  nonneg : ∀ k p, 0 ≤ y k p
  sum : ∀ k, ∑ p, y k p = 1
  out : ∀ k, ∑ p, (if blk p = k then 0 else y k p) ≤ 1 / 10 ^ 6

/-- Assignments that give every pixel almost whole to its block's cluster. -/
def Sharp (a : Fin 9 → Fin 576 → ℝ) : Prop := ∀ k p, blk p ≠ k → a k p ≤ 1 / 10 ^ 9

/-- Two block numbers differ by at most 8. -/
theorem blk_le (p q : Fin 576) : (((blk p).val : ℝ) - ((blk q).val : ℝ)) ^ 2 ≤ 64 := by
  have h1 : ((blk p).val : ℝ) ≤ 8 := by exact_mod_cast Nat.le_of_lt_succ (blk p).isLt
  have h2 : ((blk q).val : ℝ) ≤ 8 := by exact_mod_cast Nat.le_of_lt_succ (blk q).isLt
  have h3 : (0 : ℝ) ≤ ((blk p).val : ℝ) := Nat.cast_nonneg _
  have h4 : (0 : ℝ) ≤ ((blk q).val : ℝ) := Nat.cast_nonneg _
  nlinarith

/-- A pixel is near the weighted mean of its own block. -/
theorem near_own (y : Fin 9 → Fin 576 → ℝ) (hy : Near y) (c : Fin 9 → Fin 770 → ℝ) (hc : ∀ k d, c k d = ∑ p, y k p * XS p d)
    (p : Fin 576) : ∑ d, (XS p d - c (blk p) d) ^ 2 ≤ 9600 := by
  refine (sq_mean_le XS (y (blk p)) (hy.nonneg _) (hy.sum _) _ (hc _) p).trans ?_
  have h1 : ∑ q, y (blk p) q * ∑ d, (XS p d - XS q d) ^ 2
      ≤ ∑ q, (y (blk p) q * 9524 + (if blk q = blk p then 0 else y (blk p) q) * 1048576) := by
    refine Finset.sum_le_sum fun q _ => ?_
    have h0 := hy.nonneg (blk p) q
    have hd := mul_le_mul_of_nonneg_left (dist_le p q) h0
    by_cases h : blk q = blk p
    · rw [h, sub_self] at hd
      rw [if_pos h]
      linarith
    · rw [if_neg h]
      have := mul_le_mul_of_nonneg_left (blk_le p q) h0
      linarith
  refine h1.trans ?_
  rw [Finset.sum_add_distrib, ← Finset.sum_mul, ← Finset.sum_mul, hy.sum]
  have := hy.out (blk p)
  linarith

/-- A pixel is far from the weighted mean of another block. -/
theorem near_other (y : Fin 9 → Fin 576 → ℝ) (hy : Near y) (c : Fin 9 → Fin 770 → ℝ) (hc : ∀ k d, c k d = ∑ p, y k p * XS p d)
    (k : Fin 9) (p : Fin 576) (hp : blk p ≠ k) : 16000 ≤ ∑ d, (XS p d - c k d) ^ 2 := by
  refine le_trans ?_ (Finset.single_le_sum (f := fun d => (XS p d - c k d) ^ 2) (fun d _ => sq_nonneg _)
    (Finset.mem_univ (⟨578, by omega⟩ : Fin 770)))
  have hk : |∑ q, y k q * (((blk q).val : ℝ) - (k.val : ℝ))| ≤ 8 / 10 ^ 6 := by
    refine (Finset.abs_sum_le_sum_abs _ _).trans ?_
    have : ∑ q, |y k q * (((blk q).val : ℝ) - (k.val : ℝ))| ≤ ∑ q, (if blk q = k then 0 else y k q) * 8 := by
      refine Finset.sum_le_sum fun q _ => ?_
      by_cases h : blk q = k
      · rw [if_pos h, h, sub_self, mul_zero, abs_zero, zero_mul]
      · rw [if_neg h, abs_mul, abs_of_nonneg (hy.nonneg k q)]
        refine mul_le_mul_of_nonneg_left ?_ (hy.nonneg k q)
        have h1 : ((blk q).val : ℝ) ≤ 8 := by exact_mod_cast Nat.le_of_lt_succ (blk q).isLt
        have h2 : (k.val : ℝ) ≤ 8 := by exact_mod_cast Nat.le_of_lt_succ k.isLt
        have h3 : (0 : ℝ) ≤ ((blk q).val : ℝ) := Nat.cast_nonneg _
        have h4 : (0 : ℝ) ≤ (k.val : ℝ) := Nat.cast_nonneg _
        exact abs_le.mpr ⟨by linarith, by linarith⟩
    refine this.trans ?_
    rw [← Finset.sum_mul]
    have := hy.out k
    linarith
  have hs : c k ⟨578, by omega⟩ = 128 * (∑ q, y k q * (((blk q).val : ℝ) - (k.val : ℝ)) + (k.val : ℝ)) := by
    rw [hc]
    simp only [XS_blk, mul_sub, Finset.sum_sub_distrib, ← Finset.sum_mul, hy.sum]
    rw [one_mul, sub_add_cancel, Finset.mul_sum]
    exact Finset.sum_congr rfl fun q _ => by ring
  show 16000 ≤ (XS p ⟨578, by omega⟩ - c k ⟨578, by omega⟩) ^ 2
  rw [hs, XS_blk]
  obtain ⟨l1, l2⟩ := abs_le.mp hk
  set z := ∑ q, y k q * (((blk q).val : ℝ) - (k.val : ℝ))
  have hne : (blk p).val ≠ k.val := fun h => hp (Fin.ext h)
  rcases Nat.lt_or_gt_of_ne hne with h | h
  · have : ((blk p).val : ℝ) + 1 ≤ (k.val : ℝ) := by exact_mod_cast h
    nlinarith
  · have : (k.val : ℝ) + 1 ≤ ((blk p).val : ℝ) := by exact_mod_cast h
    nlinarith

/-- A large exponent. -/
theorem exp_big (x : ℝ) (hx : 6000 ≤ x) : Real.exp (-x) ≤ 1 / 10 ^ 9 := by
  have h := Real.add_one_le_exp (2000 : ℝ)
  have h3 : Real.exp (2000 : ℝ) ^ 3 ≤ Real.exp x := by
    rw [← Real.exp_nat_mul]
    exact Real.exp_le_exp.mpr (by push_cast; linarith)
  have h4 : (2001 : ℝ) ^ 3 ≤ Real.exp (2000 : ℝ) ^ 3 := pow_le_pow_left₀ (by norm_num) (by linarith) 3
  rw [Real.exp_neg, inv_eq_one_div]
  exact one_div_le_one_div_of_le (by norm_num) (le_trans (by norm_num) (h4.trans h3))

/-- The assignment to near centroids is sharp. -/
theorem sharp_assign (y : Fin 9 → Fin 576 → ℝ) (hy : Near y) (c : Fin 9 → Fin 770 → ℝ) (hc : ∀ k d, c k d = ∑ p, y k p * XS p d) :
    Sharp (assign XS c) := by
  intro k p hp
  have h1 := near_own y hy c hc p
  have h2 := near_other y hy c hc k p hp
  refine le_trans ?_ (exp_big (6400 : ℝ) (by norm_num))
  unfold assign soft
  rw [div_le_iff₀ (Finset.sum_pos (fun _ _ => Real.exp_pos _) Finset.univ_nonempty)]
  have h3 : Real.exp (negDist XS c (blk p) p) ≤ ∑ k', Real.exp (negDist XS c k' p) :=
    Finset.single_le_sum (f := fun k' => Real.exp (negDist XS c k' p)) (fun _ _ => (Real.exp_pos _).le) (Finset.mem_univ _)
  refine le_trans ?_ (mul_le_mul_of_nonneg_left h3 (Real.exp_pos _).le)
  rw [← Real.exp_add]
  refine Real.exp_le_exp.mpr ?_
  rw [negDist_sq, negDist_sq]
  linarith

/-- The pixels of a block number sixty-four. -/
theorem ind_sum (k : Fin 9) : ∑ p, ind k p = 64 := by
  have h : ∀ k : Fin 9, (Finset.univ.filter fun p => blk p = k).card = 64 := by decide +kernel
  unfold ind
  rw [Finset.sum_boole, h]
  norm_num

/-- A sharp assignment's weight of a cluster. -/
theorem sharp_weight (a : Fin 9 → Fin 576 → ℝ) (h0 : ∀ k p, 0 ≤ a k p) (h1 : ∀ p, ∑ k, a k p = 1) (hs : Sharp a) (k : Fin 9) :
    63 ≤ ∑ p, a k p + eps ∧ ∑ p, a k p + eps ≤ 65 := by
  have hown : ∀ p, 1 - 8 / 10 ^ 9 ≤ a (blk p) p := by
    intro p
    have h := h1 p
    rw [← Finset.add_sum_erase _ _ (Finset.mem_univ (blk p))] at h
    have : ∑ l ∈ Finset.univ.erase (blk p), a l p ≤ ∑ _l ∈ Finset.univ.erase (blk p), (1 / 10 ^ 9 : ℝ) :=
      Finset.sum_le_sum fun l hl => hs l p (Finset.ne_of_mem_erase hl).symm
    rw [Finset.sum_const, Finset.card_erase_of_mem (Finset.mem_univ _), Finset.card_univ, Fintype.card_fin] at this
    norm_num at this
    linarith [h1 p]
  have hle : ∀ k p, a k p ≤ 1 := fun k p => by
    rw [← h1 p]; exact Finset.single_le_sum (f := fun k => a k p) (fun k _ => h0 k p) (Finset.mem_univ k)
  have lo : ∑ p, (1 - 8 / 10 ^ 9) * ind k p ≤ ∑ p, a k p := by
    refine Finset.sum_le_sum fun p _ => ?_
    unfold ind
    split
    · next h => rw [← h, mul_one]; exact hown p
    · rw [mul_zero]; exact h0 k p
  have hi : ∑ p, a k p ≤ ∑ p : Fin 576, (ind k p + 1 / 10 ^ 9) := by
    refine Finset.sum_le_sum fun p _ => ?_
    unfold ind
    split
    · have := hle k p; have : (0 : ℝ) ≤ 1 / 10 ^ 9 := by positivity
      linarith
    · next h => rw [zero_add]; exact hs k p h
  rw [← Finset.mul_sum, ind_sum] at lo
  rw [Finset.sum_add_distrib, ind_sum, Finset.sum_const, Finset.card_univ, Fintype.card_fin] at hi
  norm_num at hi lo
  have := eps_pos
  have h' : eps ≤ 1 / 10 := by unfold eps; norm_num
  constructor <;> linarith

/-- The updated centroids of a sharp assignment are near. -/
theorem near_update (a : Fin 9 → Fin 576 → ℝ) (h0 : ∀ k p, 0 ≤ a k p) (h1 : ∀ p, ∑ k, a k p = 1) (hs : Sharp a) :
    ∃ y, Near y ∧ ∀ k d, update eps XS a k d = ∑ p, y k p * XS p d := by
  have hw := sharp_weight a h0 h1 hs
  have hpos : ∀ k, 0 < ∑ p, a k p + eps := fun k => by linarith [(hw k).1]
  refine ⟨fun k p => a k p / (∑ p, a k p + eps) + if p = 0 then eps / (∑ p, a k p + eps) else 0, ⟨?_, ?_, ?_⟩, ?_⟩
  · intro k p
    refine add_nonneg (div_nonneg (h0 k p) (hpos k).le) ?_
    split
    · exact div_nonneg eps_pos.le (hpos k).le
    · exact le_refl _
  · intro k
    rw [Finset.sum_add_distrib, Finset.sum_ite_eq' Finset.univ (0 : Fin 576), if_pos (Finset.mem_univ _), ← Finset.sum_div, ← add_div,
      div_self (hpos k).ne']
  · intro k
    have : ∑ p : Fin 576, (if blk p = k then 0 else a k p / (∑ p, a k p + eps) + if p = 0 then eps / (∑ p, a k p + eps) else 0)
        ≤ ∑ p : Fin 576, (1 / 10 ^ 9 + if p = 0 then (1 / 10 ^ 7 : ℝ) else 0) := by
      refine Finset.sum_le_sum fun p _ => ?_
      have hz : (0 : ℝ) ≤ if p = 0 then (1 / 10 ^ 7 : ℝ) else 0 := by split <;> positivity
      split
      · have : (0 : ℝ) ≤ 1 / 10 ^ 9 := by positivity
        linarith
      · next h =>
        have h2 := hs k p h
        refine add_le_add ?_ ?_
        · rw [div_le_iff₀ (hpos k)]
          have := (hw k).1
          nlinarith
        · split
          · rw [div_le_iff₀ (hpos k)]
            have h' : eps ≤ 1 / 10 ^ 7 := by unfold eps; norm_num
            have := (hw k).1
            nlinarith
          · exact le_refl _
    refine this.trans ?_
    rw [Finset.sum_add_distrib, Finset.sum_ite_eq' Finset.univ (0 : Fin 576), if_pos (Finset.mem_univ _), Finset.sum_const, Finset.card_univ, Fintype.card_fin]
    norm_num
  · intro k d
    unfold update
    simp only [add_mul, Finset.sum_add_distrib]
    have : ∑ p : Fin 576, (if p = 0 then eps / (∑ p, a k p + eps) else 0) * XS p d = 0 := by
      refine Finset.sum_eq_zero fun p _ => ?_
      split
      · next h => rw [h, XS_zero, mul_zero]
      · rw [zero_mul]
    rw [this, add_zero, Finset.sum_div]
    exact Finset.sum_congr rfl fun p _ => by ring

/-- The initial centroids are near. -/
theorem near_init : Near (fun k p => 1 / 64 * ind k p) := by
  refine ⟨?_, ?_, ?_⟩
  · intro k p; unfold ind; split <;> norm_num
  · intro k; rw [← Finset.mul_sum, ind_sum]; norm_num
  · intro k
    rw [Finset.sum_eq_zero]
    · positivity
    · intro p _
      unfold ind
      split
      · rfl
      · rw [mul_zero]

/-- The assignments, one after each number of updates. -/
abbrev aN (n : ℕ) : Fin 9 → Fin 576 → ℝ := assign XS (cents eps XS (init XS) n)

/-- The initial centroids are the blocks' means. -/
theorem init_eq (k : Fin 9) (d : Fin 770) : init XS k d = ∑ p, 1 / 64 * ind k p * XS p d := by
  unfold init
  rw [Finset.mul_sum]
  exact Finset.sum_congr rfl fun p _ => by ring

/-- Every assignment is sharp. -/
theorem sharp_all (n : ℕ) : Sharp (aN n) := by
  induction n with
  | zero => exact sharp_assign _ near_init _ init_eq
  | succ n ih =>
    obtain ⟨y, hy, hc⟩ := near_update (aN n) (fun k p => (soft_pos _ k p).le) (fun p => sum_soft _ p) ih
    exact sharp_assign y hy _ hc

/-- Successive assignments that agree were preceded by such. -/
theorem back_step (n : ℕ) (h : aN (n + 1) = aN (n + 2)) : aN n = aN (n + 1) := by
  have h0 : ∀ n k p, 0 ≤ aN n k p := fun n k p => (soft_pos _ k p).le
  have h1 : ∀ n p, ∑ k, aN n k p = 1 := fun n p => sum_soft _ p
  have hw : ∀ n k, 63 ≤ ∑ p, aN n k p + eps ∧ ∑ p, aN n k p + eps ≤ 65 := fun n => sharp_weight _ (h0 n) (h1 n) (sharp_all n)
  have hpos : ∀ n k, 0 < ∑ p, aN n k p + eps := fun n k => by linarith [(hw n k).1]
  have hu := update_inj eps XS 0 XS_zero (aN n) (aN (n + 1)) (h1 n) (h1 (n + 1)) (hpos n) (hpos (n + 1)) h
  refine assign_inj eps 0 _ _ (h1 n) (h1 (n + 1)) (h0 n) (hpos n) (hpos (n + 1)) ?_ ?_
  · intro k
    have hb : ∀ k : Fin 9, ∃ p : Fin 576, p ≠ 0 ∧ blk p = k := by decide +kernel
    obtain ⟨p, hp, hk⟩ := hb k
    refine ⟨p, hp, ?_⟩
    have h := h1 n p
    rw [← Finset.add_sum_erase _ _ (Finset.mem_univ k)] at h
    have : ∑ l ∈ Finset.univ.erase k, aN n l p ≤ ∑ _l ∈ Finset.univ.erase k, (1 / 10 ^ 9 : ℝ) :=
      Finset.sum_le_sum fun l hl => sharp_all n l p (by rw [hk]; exact (Finset.ne_of_mem_erase hl).symm)
    rw [Finset.sum_const, Finset.card_erase_of_mem (Finset.mem_univ _), Finset.card_univ, Fintype.card_fin] at this
    norm_num at this
    linarith [h1 n p]
  · intro k p hp
    have e : ∀ m, update eps XS (aN m) k ⟨2 + p.val, by omega⟩ = aN m k p / (∑ p, aN m k p + eps) := by
      intro m
      unfold update
      simp only [XS_own p _ hp, mul_ite, mul_one, mul_zero]
      rw [Finset.sum_ite_eq' Finset.univ p, if_pos (Finset.mem_univ _)]
    rw [← e, ← e, hu]

/-- The first two assignments differ. -/
theorem first_ne : aN 0 ≠ aN 1 := by
  intro h
  have h0 : ∀ n k p, 0 ≤ aN n k p := fun n k p => (soft_pos _ k p).le
  have h1 : ∀ n p, ∑ k, aN n k p = 1 := fun n p => sum_soft _ p
  have hw := sharp_weight (aN 0) (h0 0) (h1 0) (sharp_all 0)
  obtain ⟨hv, -⟩ := same_shift XS 0 XS_zero (init XS) (update eps XS (aN 0)) _ (fun k p => aN 0 k p / (∑ p, aN 0 k p + eps))
    init_eq (fun k d => by unfold update; rw [Finset.sum_div]; exact Finset.sum_congr rfl fun p _ => by ring) h 0
  -- a pixel of the last block, and the clusters 0 and 7
  obtain ⟨p, hp, hb⟩ : ∃ p : Fin 576, p ≠ 0 ∧ blk p = 8 := by decide +kernel
  have e1 : ∀ k, update eps XS (aN 0) k ⟨2 + p.val, by omega⟩ = aN 0 k p / (∑ p, aN 0 k p + eps) := by
    intro k
    unfold update
    simp only [XS_own p _ hp, mul_ite, mul_one, mul_zero]
    rw [Finset.sum_ite_eq' Finset.univ p, if_pos (Finset.mem_univ _)]
  have e2 : ∀ k, k ≠ 8 → init XS k ⟨2 + p.val, by omega⟩ = 0 := by
    intro k hk
    unfold init
    simp only [XS_own p _ hp, mul_ite, mul_one, mul_zero]
    rw [Finset.sum_ite_eq' Finset.univ p, if_pos (Finset.mem_univ _), ind, if_neg (by rw [hb]; exact hk.symm), mul_zero]
  have hq := hv 7 ⟨2 + p.val, by omega⟩
  rw [e1, e1, e2 7 (by decide), e2 0 (by decide), zero_sub, zero_sub, neg_inj] at hq
  -- the distances
  have far : 1048576 ≤ ∑ d, (XS p d - init XS 0 d) ^ 2 := by
    refine le_trans ?_ (Finset.single_le_sum (f := fun d => (XS p d - init XS 0 d) ^ 2) (fun d _ => sq_nonneg _)
      (Finset.mem_univ (⟨578, by omega⟩ : Fin 770)))
    show (1048576 : ℝ) ≤ (XS p ⟨578, by omega⟩ - init XS 0 ⟨578, by omega⟩) ^ 2
    have : init XS 0 ⟨578, by omega⟩ = 0 := by
      unfold init
      rw [Finset.sum_eq_zero, mul_zero]
      intro q _
      rw [XS_blk]
      unfold ind
      split
      · next h => rw [h]; simp
      · rw [zero_mul]
    rw [this, XS_blk, hb]
    norm_num
  have nearer : ∑ d, (XS p d - init XS 7 d) ^ 2 ≤ 25908 := by
    refine (sq_mean_le XS _ (near_init.nonneg 7) (near_init.sum 7) _ (init_eq 7) p).trans ?_
    have : ∑ q, 1 / 64 * ind 7 q * ∑ d, (XS p d - XS q d) ^ 2 ≤ ∑ q, 1 / 64 * ind 7 q * 25908 := by
      refine Finset.sum_le_sum fun q _ => ?_
      by_cases hq : blk q = 7
      · refine mul_le_mul_of_nonneg_left ((dist_le p q).trans ?_) (near_init.nonneg 7 q)
        rw [hb, hq]; norm_num
      · simp [ind, hq]
    refine this.trans ?_
    rw [← Finset.sum_mul, near_init.sum 7]
    norm_num
  have hle : aN 0 0 p ≤ 1 / 10 ^ 9 * aN 0 7 p := by
    have hx := exp_big (1000000 : ℝ) (by norm_num)
    have : aN 0 0 p ≤ Real.exp (-1000000) * aN 0 7 p := by
      show soft (negDist XS (init XS)) 0 p ≤ _ * soft (negDist XS (init XS)) 7 p
      unfold soft
      rw [← mul_div_assoc, ← Real.exp_add]
      refine div_le_div_of_nonneg_right (Real.exp_le_exp.mpr ?_) (Finset.sum_nonneg fun _ _ => (Real.exp_pos _).le)
      rw [negDist_sq, negDist_sq]
      linarith
    exact this.trans (mul_le_mul_of_nonneg_right hx (h0 0 7 p))
  have hp7 : 0 < aN 0 7 p := soft_pos _ 7 p
  have p7 : 0 < ∑ p, aN 0 7 p + eps := by linarith [(hw 7).1]
  have p0 : 0 < ∑ p, aN 0 0 p + eps := by linarith [(hw 0).1]
  rw [div_eq_div_iff p7.ne' p0.ne'] at hq
  nlinarith [(hw 7).2, (hw 0).1]

/-- No two successive assignments agree. -/
theorem aN_ne (n : ℕ) : aN n ≠ aN (n + 1) := by
  induction n with
  | zero => exact first_ne
  | succ n ih => exact fun h => ih (back_step n h)

/-- On that image the assignment after nine updates is somewhere not the one after ten. -/
theorem result_ne : ∃ p k, result spread 9 p k ≠ result spread 10 p k := by
  by_contra hn
  push Not at hn
  exact aN_ne 9 (funext fun k => funext fun p => hn p k)

end Cert.Soft

end
-- ==== Proof.Ten.lean ====
module

public import proofs.«01_k».proof.Post_differs
public import proofs.«01_k».proof.Pre_spread
public import proofs.«01_k».proof.Proof.RHost
public import proofs.«01_k».proof.Proof.Apart

@[expose] public section

set_option maxRecDepth 16384

noncomputable section

/-! The predicate on the result that ten updates give: its value where the embeddings are real, and its truth of the
kernel's nine on the image that tells them apart. -/

namespace Cert.Post_differs.Read

open Cert.Post_differs Idealize.ShloMosaic Idealize.ShloMosaic.TcCoe
open Idealize.ShloMosaic.Tactic Cert.Soft

/-- The side conditions of the predicate on the result. -/
instance factsPost : Cert.Post_differs.Facts := by
  constructor <;> decide

open Cert.Post_differs.Facts

variable {F : FTy → Type} [FloatOps F]

/-- Minus the squared distances, as the predicate computes them. -/
def distP (x : FVec F S128x576x770 .f32) (c : FVec F S128x9x770 .f32) : FVec F S128x576x9 .f32 :=
  Host.negf (addf (subf (broadcastInDim S128x576x9 ![0, 1, 2] bcast_S128x576x1_S128x576x9_0_1_2 (broadcastInDim S128x576x1 ![0, 1] bcast_S128x576_S128x576x1_0_1 (Host.reduceAdd (mulf x x) (constant S_ .f32 0x00000000#32) reducesTo_S128x576x770_S128x576_d2 h_S_))) (mulf (broadcastInDim S128x576x9 ![] bcast_S_S128x576x9 (constant S_ .f32 0x40000000#32)) (Host.reduceAdd (mulf (broadcastInDim S128x576x9x770 ![0, 1, 2, 3] bcast_S128x576x1x770_S128x576x9x770_0_1_2_3 (broadcastInDim S128x576x1x770 ![0, 1, 3] bcast_S128x576x770_S128x576x1x770_0_1_3 x)) (broadcastInDim S128x576x9x770 ![0, 1, 2, 3] bcast_S128x1x9x770_S128x576x9x770_0_1_2_3 (broadcastInDim S128x1x9x770 ![0, 2, 3] bcast_S128x9x770_S128x1x9x770_0_2_3 c))) (constant S_ .f32 0x00000000#32) reducesTo_S128x576x9x770_S128x576x9_d3 h_S_))) (broadcastInDim S128x576x9 ![0, 1, 2] bcast_S128x1x9_S128x576x9_0_1_2 (broadcastInDim S128x1x9 ![0, 2] bcast_S128x9_S128x1x9_0_2 (Host.reduceAdd (mulf c c) (constant S_ .f32 0x00000000#32) reducesTo_S128x9x770_S128x9_d2 h_S_))))

/-- The assignment to the centroids. -/
def softP (x : FVec F S128x576x770 .f32) (c : FVec F S128x9x770 .f32) : FVec F S128x576x9 .f32 :=
  Cert.ReferenceIdeal.Read.normH (Cert.ReferenceIdeal.Read.expH (distP x c))

/-- The centroids of an assignment. -/
def updP (x : FVec F S128x576x770 .f32) (a : FVec F S128x576x9 .f32) : FVec F S128x9x770 .f32 :=
  Host.divf (Host.reduceAdd (mulf (broadcastInDim S128x576x9x770 ![0, 1, 2, 3] bcast_S128x576x9x1_S128x576x9x770_0_1_2_3 (broadcastInDim S128x576x9x1 ![0, 1, 2] bcast_S128x576x9_S128x576x9x1_0_1_2 a)) (broadcastInDim S128x576x9x770 ![0, 1, 2, 3] bcast_S128x576x1x770_S128x576x9x770_0_1_2_3 (broadcastInDim S128x576x1x770 ![0, 1, 3] bcast_S128x576x770_S128x576x1x770_0_1_3 x))) (constant S_ .f32 0x00000000#32) reducesTo_S128x576x9x770_S128x9x770_d1 h_S_) (broadcastInDim S128x9x770 ![0, 1, 2] bcast_S128x9x1_S128x9x770_0_1_2 (addf (broadcastInDim S128x9x1 ![0, 1] bcast_S128x9_S128x9x1_0_1 (Host.reduceAdd a (constant S_ .f32 0x00000000#32) reducesTo_S128x576x9_S128x9_d1 h_S_)) (broadcastInDim S128x9x1 ![] bcast_S_S128x9x1 (constant S_ .f32 0x322BCC77#32))))

/-- The centroids after `n` updates. -/
def centsP (x : FVec F S128x576x770 .f32) : ℕ → FVec F S128x9x770 .f32
  | 0 => Cert.ReferenceIdeal.Read.initH x
  | n + 1 => updP x (softP x (centsP x n))

/-- Whether two arrays differ somewhere. -/
def anyNe (a b : FVec F S128x576x9 .f32) : IVec S_ 1 :=
  Host.reduce IntOp.ori (cmpf .une a b) (constantI S_ 1 0#1) reducesTo_S128x576x9_S_d0_1_2 h_S_

/-- The predicate compares the result with the assignment after ten updates. -/
theorem fn_eq (a : FVec F S128x576x768 .f32) (o : FVec F S128x576x9 .f32) :
    Cert.Post_differs.fn a o = anyNe o (softP (Cert.ReferenceIdeal.Read.featH a) (centsP (Cert.ReferenceIdeal.Read.featH a) 10)) := rfl

/-- The predicate's distances, with their sum over the features, are the reference's with its matrix product. -/
theorem distP_eq (x : FVec Ideal S128x576x770 .f32) (c : FVec Ideal S128x9x770 .f32) :
    distP x c = Cert.ReferenceIdeal.Read.distH x c := by
  funext j
  idx_vars j
  refine Eq.trans ?_ (Cert.ReferenceIdeal.Read.distH_at x c _ _ _).symm
  pointwise [distP]

/-- The predicate's centroids, with their sum over the pixels, are the reference's with its matrix product. -/
theorem updP_eq (x : FVec Ideal S128x576x770 .f32) (a : FVec Ideal S128x576x9 .f32) :
    updP x a = Cert.ReferenceIdeal.Read.updH a x := by
  funext j
  idx_vars j
  refine Eq.trans ?_ (Cert.ReferenceIdeal.Read.updH_at a x _ _ _).symm
  pointwise [updP]

end Cert.Post_differs.Read

namespace Cert.Pre_spread.Read

open Cert.Pre_spread Idealize.ShloMosaic Idealize.ShloMosaic.TcCoe
open Idealize.ShloMosaic.Tactic Cert.Soft

/-- The side conditions of the precondition. -/
instance factsSpread : Cert.Pre_spread.Facts := ⟨by decide⟩

open Cert.Pre_spread.Facts

/-- The block numbers, as the precondition computes them. -/
def blkV : IVec S128x576x768 32 :=
  addi (muli (fn_floor_divide (F := Ideal) (fn_floor_divide (F := Ideal) (iotaInDim S128x576x768 32 1) (constantI S_ 32 24#32)) (constantI S_ 32 8#32))
    (broadcastInDim S128x576x768 ![] bcast_S_S128x576x768 (constantI S_ 32 3#32)))
    (fn_floor_divide (F := Ideal) (fn_remainder (F := Ideal) (iotaInDim S128x576x768 32 1) (constantI S_ 32 24#32)) (constantI S_ 32 8#32))

/-- The embedding the precondition asks for. -/
def spreadV : FVec Ideal S128x576x768 .f32 :=
  select (cmpi .eq (iotaInDim S128x576x768 32 2) (broadcastInDim S128x576x768 ![] bcast_S_S128x576x768 (constantI S_ 32 576#32)))
    (mulf (broadcastInDim S128x576x768 ![] bcast_S_S128x576x768 (constant S_ .f32 0x43000000#32)) (sitofp .f32 blkV))
    (select (andi (cmpi .eq (iotaInDim S128x576x768 32 2) (iotaInDim S128x576x768 32 1))
      (cmpi .ne (iotaInDim S128x576x768 32 1) (broadcastInDim S128x576x768 ![] bcast_S_S128x576x768 (constantI S_ 32 0#32))))
      (broadcastInDim S128x576x768 ![] bcast_S_S128x576x768 (constant S_ .f32 0x3F800000#32))
      (broadcastInDim S128x576x768 ![] bcast_S_S128x576x768 (constant S_ .f32 0x00000000#32)))

/-- The precondition compares the argument with that embedding. -/
theorem fn_eq (x : FVec Ideal S128x576x768 .f32) : Cert.Pre_spread.fn x = cmpf .oeq x spreadV := rfl

/-- The floor of a quotient, on one word. -/
def fdW (a k : BitVec 32) : BitVec 32 :=
  Scalar.select (IntOp.andi (IntOp.cmpi .ne (if a = 0#32 then 0#32 else if a.msb then -1#32 else 1#32) (if k = 0#32 then 0#32 else if k.msb then -1#32 else 1#32)) (IntOp.cmpi .ne (IntOp.remsi .host a k) 0#32))
    (IntOp.subi (IntOp.divsi .host a k) 1#32) (IntOp.divsi .host a k)

/-- The remainder with the divisor's sign, on one word. -/
def rmW (a k : BitVec 32) : BitVec 32 :=
  let k' := Scalar.select (IntOp.cmpi .eq k 0#32) 1#32 k
  let r := IntOp.remsi .host a k'
  Scalar.select (IntOp.andi (IntOp.cmpi .ne (IntOp.cmpi .slt r 0#32) (IntOp.cmpi .slt k' 0#32)) (IntOp.cmpi .ne r 0#32))
    (IntOp.addi r k') r

/-- The array's floored quotient is the word's, element by element. -/
theorem fd_at (a : IVec S128x576x768 32) (k : BitVec 32) (j : S128x576x768.Idx) :
    fn_floor_divide (F := Ideal) a (constantI S_ 32 k) j = fdW (a j) k := rfl

/-- The array's remainder is the word's, element by element. -/
theorem rm_at (a : IVec S128x576x768 32) (k : BitVec 32) (j : S128x576x768.Idx) :
    fn_remainder (F := Ideal) a (constantI S_ 32 k) j = rmW (a j) k := rfl

/-- The computed block number is the pixel's block. -/
theorem blkV_at (b : Fin 128) (p : Fin 576) (d : Fin 768) : blkV (ix3 b p d) = BitVec.ofNat 32 (blk p).val := by
  have h : ∀ p : Fin 576, IntOp.addi (IntOp.muli (fdW (fdW (BitVec.ofNat 32 p.val) 24#32) 8#32) 3#32) (fdW (rmW (BitVec.ofNat 32 p.val) 24#32) 8#32)
      = BitVec.ofNat 32 (blk p).val := by decide +kernel
  exact h p

/-- The computed embedding is `spread` in every image. -/
theorem spreadV_at (b : Fin 128) (p : Fin 576) (d : Fin 768) : spreadV (ix3 b p d) = ((spread p d : ℝ) : EReal) := by
  have hb := blkV_at b p d
  pointwise [spreadV, hb]
  have hs : (FloatOps.sitofp FTy.f32 (BitVec.ofNat 32 (blk p).val) : Ideal .f32) = (((blk p).val : ℝ) : EReal) := by
    have h : ∀ k : Fin 9, (BitVec.ofNat 32 k.val).toInt = (k.val : ℤ) := by decide
    show (((BitVec.ofNat 32 (blk p).val).toInt : ℝ) : EReal) = _
    rw [h]; simp
  have h128 : Ideal.ofBits .f32 0x43000000#32 = ((128 : ℝ) : EReal) := by
    simp [Ideal.ofBits, Ideal.ieee, -EReal.coe_mul]; norm_num
  have c1 : ∀ d : Fin 768, IntOp.cmpi .eq (BitVec.ofNat 32 d.val) 576#32 = BitVec.ofBool (decide (d.val = 576)) := by decide +kernel
  have c2 : IntOp.cmpi .eq (BitVec.ofNat 32 d.val) (BitVec.ofNat 32 p.val) = BitVec.ofBool (decide (d.val = p.val)) := by
    show BitVec.ofBool (decide (BitVec.ofNat 32 d.val = BitVec.ofNat 32 p.val)) = _
    congr 1
    refine decide_eq_decide.mpr ⟨fun h => ?_, fun h => by rw [h]⟩
    have := congrArg BitVec.toNat h
    simp only [BitVec.toNat_ofNat] at this
    omega
  have c3 : ∀ p : Fin 576, IntOp.cmpi .ne (BitVec.ofNat 32 p.val) 0#32 = BitVec.ofBool (decide (p.val ≠ 0)) := by decide +kernel
  rw [hs, h128, c1, c2, c3, ← EReal.coe_mul]
  unfold spread
  by_cases h1 : d.val = 576
  · rw [if_pos h1, decide_eq_true h1]; rfl
  · rw [if_neg h1, decide_eq_false h1]
    by_cases h2 : d.val = p.val
    · by_cases h3 : p.val ≠ 0
      · rw [if_pos ⟨h2, h3⟩, decide_eq_true h2, decide_eq_true h3]; rfl
      · rw [if_neg (fun h => h3 h.2), decide_eq_true h2, decide_eq_false h3]; rfl
    · rw [if_neg (fun h => h2 h.1), decide_eq_false h2]
      by_cases h3 : p.val ≠ 0
      · rw [decide_eq_true h3]; rfl
      · rw [decide_eq_false h3]; rfl

/-- Where the precondition holds, the embedding is that one. -/
theorem spread_of_pre (x : FVec Ideal S128x576x768 .f32) (h : Cert.Pre_spread.fn (F := Ideal) x = fun _ => 1#1)
    (b : Fin 128) (p : Fin 576) (d : Fin 768) : x (ix3 b p d) = ((spread p d : ℝ) : EReal) := by
  rw [← spreadV_at b p d]
  have h1 := congrFun ((fn_eq x).symm.trans h) (ix3 b p d)
  have h2 : BitVec.ofBool (decide ((x (ix3 b p d) : EReal) = spreadV (ix3 b p d))) = 1#1 := h1
  by_contra hn
  rw [decide_eq_false hn] at h2
  exact absurd h2 (by decide)

end Cert.Pre_spread.Read

namespace Cert.Post_differs.Read

open Cert.Post_differs Idealize.ShloMosaic Idealize.ShloMosaic.TcCoe
open Idealize.ShloMosaic.Tactic Cert.Soft

/-- The centroids after `n` updates, where the embeddings are real. -/
theorem centsP_at (x : FVec Ideal S128x576x770 .f32) (X : Fin 128 → Fin 576 → Fin 770 → ℝ)
    (hx : ∀ b p d, x (ix3 b p d) = ((X b p d : ℝ) : EReal)) (n : ℕ) (b : Fin 128) (k : Fin 9) (d : Fin 770) :
    centsP x n (ix3 b k d) = ((cents eps (X b) (init (X b)) n k d : ℝ) : EReal) := by
  induction n generalizing b k d with
  | zero => exact Cert.ReferenceIdeal.Read.initH_at x X hx b k d
  | succ n ih =>
    show updP x (softP x (centsP x n)) (ix3 b k d) = _
    rw [updP_eq, softP, distP_eq]
    exact Cert.ReferenceIdeal.Read.updH_coe x X hx _ (fun b => assign (X b) (cents eps (X b) (init (X b)) n))
      (fun b p k => Cert.ReferenceIdeal.Read.softH_at x X hx _ _ ih b p k) (fun b k p => soft_pos _ k p) b k d

/-- The predicate's ten updates and assignment, where the embeddings are real. -/
theorem ten_at (a : FVec Ideal S128x576x768 .f32) (e : Fin 128 → Fin 576 → Fin 768 → ℝ)
    (he : ∀ b p d, a (ix3 b p d) = ((e b p d : ℝ) : EReal)) (b : Fin 128) (p : Fin 576) (k : Fin 9) :
    softP (Cert.ReferenceIdeal.Read.featH a) (centsP (Cert.ReferenceIdeal.Read.featH a) 10) (ix3 b p k)
      = ((result (e b) 10 p k : ℝ) : EReal) := by
  have hf := Cert.ReferenceIdeal.Read.featH_at a e he
  rw [softP, distP_eq]
  exact Cert.ReferenceIdeal.Read.softH_at _ (fun b => feats (e b)) hf _ _ (centsP_at _ (fun b => feats (e b)) hf 10) b p k

/-- One differing element makes the comparison true. -/
theorem anyNe_one (a b : FVec Ideal S128x576x9 .f32) (i : Fin 128) (p : Fin 576) (k : Fin 9) (h : a (ix3 i p k) ≠ b (ix3 i p k)) :
    anyNe a b = fun _ => 1#1 := by
  classical
  have hf : ∀ (ι : Type) (s : Finset ι) (f : ι → BitVec 1) (j : ι), j ∈ s → f j = 1#1 → s.fold IntOp.ori 0#1 f = 1#1 := by
    intro ι s f j hj hv
    rw [← Finset.insert_erase hj, Finset.fold_insert (Finset.notMem_erase j s), hv]
    generalize Finset.fold IntOp.ori 0#1 f (s.erase j) = w
    revert w; decide
  funext o
  pointwise [anyNe]
  exact hf _ _ _ (i, p, k) (Finset.mem_univ _) (by rw [decide_eq_true h]; rfl)

/-- On the embedding of the precondition the assignment after nine updates satisfies the predicate. -/
theorem fn_nine (a : FVec Ideal S128x576x768 .f32) (ha : ∀ b p d, a (ix3 b p d) = ((spread p d : ℝ) : EReal))
    (o : FVec Ideal S128x576x9 .f32) (ho : ∀ b p k, o (ix3 b p k) = ((result spread 9 p k : ℝ) : EReal)) :
    Cert.Post_differs.fn a o = fun _ => 1#1 := by
  obtain ⟨p, k, hne⟩ := result_ne
  rw [fn_eq]
  refine anyNe_one _ _ 0 p k ?_
  rw [ho, ten_at a (fun _ => spread) ha]
  exact fun h => hne (EReal.coe_eq_coe_iff.mp h)

end Cert.Post_differs.Read

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.KArray
public import proofs.«01_k».proof.Proof.RValue
public import proofs.«01_k».proof.Proof.Ten
public import Idealize.ShloMosaic.Adequacy
public import Idealize.ShloMosaic.Init

@[expose] public section

noncomputable section

namespace Cert.Proof

open Idealize.ShloMosaic Idealize.ShloMosaic.Tactic Idealize.SL.Sem Cert.Soft

/-- The precondition's side conditions. -/
theorem factsPre : Cert.Pre_finite.Facts := ⟨by decide⟩

/-- Where the precondition holds, every embedding is a real number. -/
theorem real_of_pre (x : FVec Ideal Cert.Pre_finite.S128x576x768 .f32)
    (h : (letI := factsPre; Cert.Pre_finite.fn (F := Ideal) x) = fun _ => 1#1) :
    ∃ e : Fin 128 → Fin 576 → Fin 768 → ℝ, ∀ b p d, x (ix3 b p d) = ((e b p d : ℝ) : EReal) := by
  have hr : ∀ b p d, ∃ r : ℝ, x (ix3 b p d) = ((r : ℝ) : EReal) := by
    intro b p d
    have h1 := congrFun h (ix3 b p d)
    pointwise [Cert.Pre_finite.fn] at h1
    have hlt : FloatOps.absf (x (ix3 b p d)) < Ideal.ofBits FTy.f32 2139095040#32 := by
      by_contra hn
      rw [decide_eq_false hn] at h1
      exact absurd h1 (by decide)
    have htop : Ideal.ofBits .f32 0x7F800000#32 = (⊤ : EReal) := by simp [Ideal.ofBits, Ideal.ieee]
    have hmax : max (x (ix3 b p d) : EReal) (-(x (ix3 b p d) : EReal)) < ⊤ := lt_of_lt_of_eq hlt htop
    obtain ⟨ha, hb⟩ := max_lt_iff.mp hmax
    refine ⟨(x (ix3 b p d) : EReal).toReal, (EReal.coe_toReal ha.ne fun hbot => ?_).symm⟩
    rw [hbot, EReal.neg_bot] at hb
    exact lt_irrefl _ hb
  choose e he using hr
  exact ⟨e, he⟩

/-- The reference runs, leaves its argument and ends with every counter at zero. -/
theorem frameR (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run _ _ _).mono (fun r h => ⟨fun c => (h c Cert.ReferenceIdeal.main_arg0 (by decide)).trans (Cert.ReferenceIdeal.Read.final_arg0 m c),
    sem_eq_zero_of_no_sems (by decide) _⟩) (Cert.ReferenceIdeal.Value.run_fold m g)

/-- The reference's result, where the embeddings are real, as the kernel's array function. -/
theorem refArr (m : (ℓ : Loc Cert.ReferenceIdeal.nD Cert.ReferenceIdeal.τ Cert.ReferenceIdeal.sig) → Buf (Elt Ideal) ℓ)
    (c : Dev Cert.ReferenceIdeal.nD) (e : Fin 128 → Fin 576 → Fin 768 → ℝ)
    (he : ∀ b p d, (m ((c.tc : Thread Cert.ReferenceIdeal.nD Cert.ReferenceIdeal.τ).loc Cert.ReferenceIdeal.main_arg0) : FVec Ideal Cert.ReferenceIdeal.S128x576x768 .f32) (ix3 b p d) = ((e b p d : ℝ) : EReal)) :
    Cert.ReferenceIdeal.Read.oOf (StableHlo.finalContents Cert.ReferenceIdeal.Value.condOps Cert.ReferenceIdeal.Value.preI Cert.ReferenceIdeal.Value.bodyI Cert.ReferenceIdeal.Value.postI 9 m c)
      = Cert.KernelIdeal.Block.arrF fun b => result (e b) 9 := by
  funext j
  idx_vars j
  exact Cert.ReferenceIdeal.Read.final_v46 m c e he _ _ _

/-- All claims: the three programs' frames, the idealized kernel as a copy of the kernel, its equality with the reference
    of nine updates on finite embeddings, and its difference from ten updates on one embedding. -/
theorem claim : Cert.Claim := ⟨Cert.Kernel.Gen.facts, Cert.KernelIdeal.Gen.facts, Cert.ReferenceIdeal.Gen.facts, factsPre,
  Cert.Pre_spread.Read.factsSpread, Cert.Post_differs.Read.factsPost,
  fun m ρ _ => Cert.Kernel.Gen.frame m ρ,
  fun m ρ _ => Cert.KernelIdeal.Gen.frame m ρ,
  fun m ρ _ => Cert.KernelIdeal.Gen.frame m ρ,
  fun m ρ _ => Cert.KernelIdeal.Gen.frame m ρ,
  fun m ρ _ => frameR m ρ,
  fun m ρ _ => frameR m ρ,
  trivial,
  by
    intro m g m' g' hpre hm
    choose e he using fun c => real_of_pre _ (hpre c)
    refine ⟨fun c => Cert.KernelIdeal.Block.arrF fun b => result (e c b) 9, ?_, ?_⟩
    · exact (θ_run _ _ _).mono (fun r h c => ⟨(h c).1.trans (Cert.KernelIdeal.Block.arr_eq m c (e c) (he c)), (h c).2⟩)
        (Cert.KernelIdeal.Value.run_blocks m g)
    · refine (θ_run _ _ _).mono (fun r h c => ⟨?_, ?_⟩) (Cert.ReferenceIdeal.Value.run_fold m' g')
      · refine (h c Cert.ReferenceIdeal.main_v46 (by decide)).trans (refArr m' c (e c) ?_)
        intro b p d
        exact (congrFun (hm c) _).trans (he c b p d)
      · exact (h c Cert.ReferenceIdeal.main_arg0 (by decide)).trans (Cert.ReferenceIdeal.Read.final_arg0 m' c),
  by
    intro m g hpre
    refine (θ_run _ _ _).mono (fun r h c => ⟨(h c).2, ?_⟩) (Cert.KernelIdeal.Value.run_blocks m g)
    have hs := Cert.Pre_spread.Read.spread_of_pre _ (hpre c)
    refine Cert.Post_differs.Read.fn_nine _ hs _ fun b p k => ?_
    exact congrFun ((h c).1.trans (Cert.KernelIdeal.Block.arr_eq m c (fun _ => spread) hs)) _⟩

end Cert.Proof

end
